-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unambiguous [hPre_unambiguous : Cert.Pre_unambiguous.Facts] (m : (ℓ : Loc Cert.KernelIdeal.nD Cert.KernelIdeal.τ Cert.KernelIdeal.sig) → Buf (Elt Ideal) ℓ) : Prop :=
  ∀ c : Dev Cert.KernelIdeal.nD,
    (Cert.Pre_unambiguous.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unambiguous [hPre_unambiguous : Cert.Pre_unambiguous.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unambiguous.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_unambiguous [hKernelIdeal : Cert.KernelIdeal.Facts] [hPre_unambiguous : Cert.Pre_unambiguous.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unambiguous m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_unambiguous [hReferenceIdeal : Cert.ReferenceIdeal.Facts] [hPre_unambiguous : Cert.Pre_unambiguous.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unambiguous m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_unambiguous [hKernelIdeal : Cert.KernelIdeal.Facts] [hReferenceIdeal : Cert.ReferenceIdeal.Facts] [hPre_unambiguous : Cert.Pre_unambiguous.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unambiguous m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_unambiguous : Cert.Pre_unambiguous.Facts),
    quiescent_Kernel (hKernel := hKernel)
    ∧ quiescent_KernelIdeal (hKernelIdeal := hKernelIdeal)
    ∧ quiescent_KernelIdeal_pre_unambiguous (hKernelIdeal := hKernelIdeal) (hPre_unambiguous := hPre_unambiguous)
    ∧ quiescent_ReferenceIdeal (hReferenceIdeal := hReferenceIdeal)
    ∧ quiescent_ReferenceIdeal_pre_unambiguous (hReferenceIdeal := hReferenceIdeal) (hPre_unambiguous := hPre_unambiguous)
    ∧ preserves_Kernel_KernelIdeal
    ∧ algebraic_KernelIdeal_ReferenceIdeal_pre_unambiguous (hKernelIdeal := hKernelIdeal) (hReferenceIdeal := hReferenceIdeal) (hPre_unambiguous := hPre_unambiguous)
-- ==== Pre_unambiguous.lean ====
abbrev S32768x64 : Shape := ⟨2, ![32768, 64]⟩
abbrev S32768x3 : Shape := ⟨2, ![32768, 3]⟩
abbrev S8 : Shape := ⟨1, ![8]⟩
abbrev S32768 : Shape := ⟨1, ![32768]⟩
abbrev S8x4096x3 : Shape := ⟨3, ![8, 4096, 3]⟩
abbrev S8x4096x1x3 : Shape := ⟨4, ![8, 4096, 1, 3]⟩
abbrev S8x1x4096x3 : Shape := ⟨4, ![8, 1, 4096, 3]⟩
abbrev S8x4096x4096x3 : Shape := ⟨4, ![8, 4096, 4096, 3]⟩
abbrev S_ : Shape := ⟨0, ![]⟩
abbrev S8x4096x4096 : Shape := ⟨3, ![8, 4096, 4096]⟩
abbrev S8x4096x17 : Shape := ⟨3, ![8, 4096, 17]⟩
abbrev S8x4096x16 : Shape := ⟨3, ![8, 4096, 16]⟩
abbrev S8x4096x16x1 : Shape := ⟨4, ![8, 4096, 16, 1]⟩
abbrev S8x4096x1x16 : Shape := ⟨4, ![8, 4096, 1, 16]⟩
abbrev S8x4096x16x16 : Shape := ⟨4, ![8, 4096, 16, 16]⟩

class Facts : Prop where
  shapeCasts_S32768x3_S8x4096x3 : S32768x3.ShapeCasts S8x4096x3
  bcast_S8x4096x3_S8x4096x1x3_0_1_3 : S8x4096x3.BroadcastsInDim S8x4096x1x3 (![0, 1, 3] : Fin 3 → Fin S8x4096x1x3.rank)
  bcast_S8x4096x3_S8x1x4096x3_0_2_3 : S8x4096x3.BroadcastsInDim S8x1x4096x3 (![0, 2, 3] : Fin 3 → Fin S8x1x4096x3.rank)
  bcast_S8x4096x1x3_S8x4096x4096x3_0_1_2_3 : S8x4096x1x3.BroadcastsInDim S8x4096x4096x3 (![0, 1, 2, 3] : Fin 4 → Fin S8x4096x4096x3.rank)
  bcast_S8x1x4096x3_S8x4096x4096x3_0_1_2_3 : S8x1x4096x3.BroadcastsInDim S8x4096x4096x3 (![0, 1, 2, 3] : Fin 4 → Fin S8x4096x4096x3.rank)
  reducesTo_S8x4096x4096x3_S8x4096x4096_d3 : S8x4096x4096x3.ReducesTo [3] S8x4096x4096
  h_S_ : 0 < S_.numel
  sliceFits_S8x4096x4096_S8x4096x17 : S8x4096x4096.Slices (fun _ => 0) S8x4096x17
  slices_S8x4096x17_S8x4096x16_0_0_1 : S8x4096x17.Slices ![0, 0, 1] S8x4096x16
  slices_S8x4096x17_S8x4096x16_0_0_0 : S8x4096x17.Slices ![0, 0, 0] S8x4096x16
  reducesTo_S8x4096x16_S_d0_1_2 : S8x4096x16.ReducesTo [0, 1, 2] S_
  bcast_S_S8x4096x16 : S_.BroadcastsInDim S8x4096x16 (![] : Fin 0 → Fin S8x4096x16.rank)
  bcast_S8x4096x16_S8x4096x16x1_0_1_2 : S8x4096x16.BroadcastsInDim S8x4096x16x1 (![0, 1, 2] : Fin 3 → Fin S8x4096x16x1.rank)
  bcast_S8x4096x16_S8x4096x1x16_0_1_3 : S8x4096x16.BroadcastsInDim S8x4096x1x16 (![0, 1, 3] : Fin 3 → Fin S8x4096x1x16.rank)
  bcast_S8x4096x16x1_S8x4096x16x16_0_1_2_3 : S8x4096x16x1.BroadcastsInDim S8x4096x16x16 (![0, 1, 2, 3] : Fin 4 → Fin S8x4096x16x16.rank)
  bcast_S8x4096x1x16_S8x4096x16x16_0_1_2_3 : S8x4096x1x16.BroadcastsInDim S8x4096x16x16 (![0, 1, 2, 3] : Fin 4 → Fin S8x4096x16x16.rank)
  natLt_1_32 : 1 < 32
  reducesTo_S8x4096x16x16_S8x4096x16_d3 : S8x4096x16x16.ReducesTo [3] S8x4096x16
  bcast_S_S32768 : S_.BroadcastsInDim S32768 (![] : Fin 0 → Fin S32768.rank)
  reducesTo_S32768_S_d0 : S32768.ReducesTo [0] S_

variable [Facts]

def fn_part1 {F : FTy → Type} [FloatOps F] (main_arg3 : IVec S32768 32) (main_v12 : IVec S_ 1) (main_v17 : IVec S8x4096x1x16 32) (main_v18 : IVec S8x4096x16x16 32) : IVec S_ 1 :=
  let main_v19 : IVec S8x4096x16x16 32 := broadcastInDim S8x4096x16x16 ![0, 1, 2, 3] bcast_S8x4096x1x16_S8x4096x16x16_0_1_2_3 main_v17
  let main_v20 : IVec S8x4096x16x16 1 := cmpi .eq main_v18 main_v19
  let main_v21 : IVec S8x4096x16x16 32 := (extui 32 · natLt_1_32) main_v20
  let main_c_1 : IVec S_ 32 := constantI S_ 32 0#32
  let main_v22 : IVec S8x4096x16 32 := (fun x v => Host.reduce IntOp.addi x v reducesTo_S8x4096x16x16_S8x4096x16_d3 h_S_) main_v21 main_c_1
  let main_c_2 : IVec S_ 32 := constantI S_ 32 4#32
  let main_v23 : IVec S8x4096x16 32 := broadcastInDim S8x4096x16 ![] bcast_S_S8x4096x16 main_c_2
  let main_v24 : IVec S8x4096x16 1 := cmpi .sle main_v22 main_v23
  let main_c_3 : IVec S_ 1 := constantI S_ 1 1#1
  let main_v25 : IVec S_ 1 := (fun x v => Host.reduce IntOp.andi x v reducesTo_S8x4096x16_S_d0_1_2 h_S_) main_v24 main_c_3
  let main_v26 : IVec S_ 1 := andi main_v12 main_v25
  let main_c_4 : IVec S_ 32 := constantI S_ 32 4294967295#32
  let main_v27 : IVec S32768 32 := broadcastInDim S32768 ![] bcast_S_S32768 main_c_4
  let main_v28 : IVec S32768 1 := cmpi .ne main_arg3 main_v27
  let main_c_5 : IVec S_ 1 := constantI S_ 1 1#1
  let main_v29 : IVec S_ 1 := (fun x v => Host.reduce IntOp.andi x v reducesTo_S32768_S_d0 h_S_) main_v28 main_c_5
  let main_v30 : IVec S_ 1 := andi main_v26 main_v29
  main_v30

def fn {F : FTy → Type} [FloatOps F] (main_arg0 : FVec F S32768x64 .f32) (main_arg1 : FVec F S32768x3 .f32) (main_arg2 : IVec S8 32) (main_arg3 : IVec S32768 32) : IVec S_ 1 :=
  let main_v0 : FVec F S8x4096x3 .f32 := shapeCast S8x4096x3 main_arg1 shapeCasts_S32768x3_S8x4096x3
  let main_v1 : FVec F S8x4096x1x3 .f32 := broadcastInDim S8x4096x1x3 ![0, 1, 3] bcast_S8x4096x3_S8x4096x1x3_0_1_3 main_v0
  let main_v2 : FVec F S8x1x4096x3 .f32 := broadcastInDim S8x1x4096x3 ![0, 2, 3] bcast_S8x4096x3_S8x1x4096x3_0_2_3 main_v0
  let main_v3 : FVec F S8x4096x4096x3 .f32 := broadcastInDim S8x4096x4096x3 ![0, 1, 2, 3] bcast_S8x4096x1x3_S8x4096x4096x3_0_1_2_3 main_v1
  let main_v4 : FVec F S8x4096x4096x3 .f32 := broadcastInDim S8x4096x4096x3 ![0, 1, 2, 3] bcast_S8x1x4096x3_S8x4096x4096x3_0_1_2_3 main_v2
  let main_v5 : FVec F S8x4096x4096x3 .f32 := subf main_v3 main_v4
  let main_v6 : FVec F S8x4096x4096x3 .f32 := mulf main_v5 main_v5
  let main_cst : FVec F S_ .f32 := constant S_ .f32 0x00000000#32
  let main_v7 : FVec F S8x4096x4096 .f32 := (fun x v => Host.reduceAdd x v reducesTo_S8x4096x4096x3_S8x4096x4096_d3 h_S_) main_v6 main_cst
  let main_v8 : FVec F S8x4096x4096 .f32 := Host.negf main_v7
  let main_values : FVec F S8x4096x17 .f32 := (fun x => (Host.topK S8x4096x17 2 (FloatOps.cmpfTotal .gt) x sliceFits_S8x4096x4096_S8x4096x17).1) main_v8
  let main_indices : IVec S8x4096x17 32 := (fun x => (Host.topK S8x4096x17 2 (FloatOps.cmpfTotal .gt) x sliceFits_S8x4096x4096_S8x4096x17).2) main_v8
  let main_v9 : FVec F S8x4096x16 .f32 := (extractStridedSlice S8x4096x16 ![0, 0, 1] · slices_S8x4096x17_S8x4096x16_0_0_1) main_values
  let main_v10 : FVec F S8x4096x16 .f32 := (extractStridedSlice S8x4096x16 ![0, 0, 0] · slices_S8x4096x17_S8x4096x16_0_0_0) main_values
  let main_v11 : IVec S8x4096x16 1 := cmpf .olt main_v9 main_v10
  let main_c : IVec S_ 1 := constantI S_ 1 1#1
  let main_v12 : IVec S_ 1 := (fun x v => Host.reduce IntOp.andi x v reducesTo_S8x4096x16_S_d0_1_2 h_S_) main_v11 main_c
  let main_v13 : IVec S8x4096x16 32 := (extractStridedSlice S8x4096x16 ![0, 0, 0] · slices_S8x4096x17_S8x4096x16_0_0_0) main_indices
  let main_c_0 : IVec S_ 32 := constantI S_ 32 255#32
  let main_v14 : IVec S8x4096x16 32 := broadcastInDim S8x4096x16 ![] bcast_S_S8x4096x16 main_c_0
  let main_v15 : IVec S8x4096x16 32 := andi main_v13 main_v14
  let main_v16 : IVec S8x4096x16x1 32 := broadcastInDim S8x4096x16x1 ![0, 1, 2] bcast_S8x4096x16_S8x4096x16x1_0_1_2 main_v15
  let main_v17 : IVec S8x4096x1x16 32 := broadcastInDim S8x4096x1x16 ![0, 1, 3] bcast_S8x4096x16_S8x4096x1x16_0_1_3 main_v15
  let main_v18 : IVec S8x4096x16x16 32 := broadcastInDim S8x4096x16x16 ![0, 1, 2, 3] bcast_S8x4096x16x1_S8x4096x16x16_0_1_2_3 main_v16
  fn_part1 (F := F) main_arg3 main_v12 main_v17 main_v18
-- ==== Kernel.lean ====
abbrev S32768x64 : Shape := ⟨2, ![32768, 64]⟩
abbrev S32768x3 : Shape := ⟨2, ![32768, 3]⟩
abbrev S8 : Shape := ⟨1, ![8]⟩
abbrev S32768 : Shape := ⟨1, ![32768]⟩
abbrev S32768x1 : Shape := ⟨2, ![32768, 1]⟩
abbrev S1x32768 : Shape := ⟨2, ![1, 32768]⟩
abbrev S3x32768 : Shape := ⟨2, ![3, 32768]⟩
abbrev S64x32768 : Shape := ⟨2, ![64, 32768]⟩
abbrev S1x1 : Shape := ⟨2, ![1, 1]⟩
abbrev S512x3 : Shape := ⟨2, ![512, 3]⟩
abbrev S3x4096 : Shape := ⟨2, ![3, 4096]⟩
abbrev S512x64 : Shape := ⟨2, ![512, 64]⟩
abbrev S64x4096 : Shape := ⟨2, ![64, 4096]⟩
abbrev S512x1 : Shape := ⟨2, ![512, 1]⟩
abbrev S1x4096 : Shape := ⟨2, ![1, 4096]⟩
abbrev S4096 : Shape := ⟨1, ![4096]⟩
abbrev S512x256 : Shape := ⟨2, ![512, 256]⟩
abbrev S1x256 : Shape := ⟨2, ![1, 256]⟩
abbrev S512 : Shape := ⟨1, ![512]⟩
abbrev S512x4096 : Shape := ⟨2, ![512, 4096]⟩
abbrev S1x512x256 : Shape := ⟨3, ![1, 512, 256]⟩
abbrev S1 : Shape := ⟨1, ![1]⟩
abbrev S1x1x1 : Shape := ⟨3, ![1, 1, 1]⟩
abbrev S_ : Shape := ⟨0, ![]⟩

abbrev nBuf : Space → Nat
  | .hbm => 31
  | .vmem => 16
  | .smem => 0
  | _ => 0

abbrev bufTy : (tb : Table) → Fin (tcTables nBuf tb) → BufTy
  | .hbm, ⟨0, _⟩ => ⟨S32768x64, .f32⟩
  | .hbm, ⟨1, _⟩ => ⟨S32768x3, .f32⟩
  | .hbm, ⟨2, _⟩ => ⟨S8, .i32⟩
  | .hbm, ⟨3, _⟩ => ⟨S32768, .i32⟩
  | .hbm, ⟨4, _⟩ => ⟨S32768, .f32⟩
  | .hbm, ⟨5, _⟩ => ⟨S32768x1, .f32⟩
  | .hbm, ⟨6, _⟩ => ⟨S1x32768, .f32⟩
  | .hbm, ⟨7, _⟩ => ⟨S3x32768, .f32⟩
  | .hbm, ⟨8, _⟩ => ⟨S64x32768, .f32⟩
  | .hbm, ⟨9, _⟩ => ⟨S1x1, .f32⟩
  | .hbm, ⟨10, _⟩ => ⟨S1x1, .f32⟩
  | .hbm, ⟨11, _⟩ => ⟨S1x1, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .i1⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S512x3, .f32⟩
  | .local _ .vmem, ⟨1, _⟩ => ⟨S512x3, .f32⟩
  | .local _ .vmem, ⟨2, _⟩ => ⟨S3x4096, .f32⟩
  | .local _ .vmem, ⟨3, _⟩ => ⟨S3x4096, .f32⟩
  | .local _ .vmem, ⟨4, _⟩ => ⟨S512x64, .f32⟩
  | .local _ .vmem, ⟨5, _⟩ => ⟨S512x64, .f32⟩
  | .local _ .vmem, ⟨6, _⟩ => ⟨S64x4096, .f32⟩
  | .local _ .vmem, ⟨7, _⟩ => ⟨S64x4096, .f32⟩
  | .local _ .vmem, ⟨8, _⟩ => ⟨S512x1, .f32⟩
  | .local _ .vmem, ⟨9, _⟩ => ⟨S512x1, .f32⟩
  | .local _ .vmem, ⟨10, _⟩ => ⟨S1x4096, .f32⟩
  | .local _ .vmem, ⟨11, _⟩ => ⟨S1x4096, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S1x1, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceIdeal.lean ====
abbrev S32768x64 : Shape := ⟨2, ![32768, 64]⟩
abbrev S32768x3 : Shape := ⟨2, ![32768, 3]⟩
abbrev S8 : Shape := ⟨1, ![8]⟩
abbrev S32768 : Shape := ⟨1, ![32768]⟩
abbrev S_ : Shape := ⟨0, ![]⟩
abbrev S32768x1 : Shape := ⟨2, ![32768, 1]⟩
abbrev S8x4096x3 : Shape := ⟨3, ![8, 4096, 3]⟩
abbrev S8x4096x1x3 : Shape := ⟨4, ![8, 4096, 1, 3]⟩
abbrev S8x1x4096x3 : Shape := ⟨4, ![8, 1, 4096, 3]⟩
abbrev S8x4096x4096x3 : Shape := ⟨4, ![8, 4096, 4096, 3]⟩
abbrev S8x4096x4096 : Shape := ⟨3, ![8, 4096, 4096]⟩
abbrev S8x4096x16 : Shape := ⟨3, ![8, 4096, 16]⟩
abbrev S8x4096 : Shape := ⟨2, ![8, 4096]⟩
abbrev S8x4096x64 : Shape := ⟨3, ![8, 4096, 64]⟩
abbrev S8x4096x16x1 : Shape := ⟨4, ![8, 4096, 16, 1]⟩
abbrev S8x4096x16x64 : Shape := ⟨4, ![8, 4096, 16, 64]⟩
abbrev S8x4096x1 : Shape := ⟨3, ![8, 4096, 1]⟩
abbrev S8x4096x1x64 : Shape := ⟨4, ![8, 4096, 1, 64]⟩

abbrev nBuf : Space → Nat
  | .hbm => 107
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S32768x3, .f32⟩
  | .hbm, ⟨2, _⟩ => ⟨S8, .i32⟩
  | .hbm, ⟨3, _⟩ => ⟨S32768, .i32⟩
  | .hbm, ⟨4, _⟩ => ⟨S32768x64, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x64, .f32⟩
  | .hbm, ⟨14, _⟩ => ⟨S32768x64, .f32⟩
  | .hbm, ⟨15, _⟩ => ⟨S8x4096x3, .f32⟩
  | .hbm, ⟨16, _⟩ => ⟨S8x4096x1x3, .f32⟩
  | .hbm, ⟨17, _⟩ => ⟨S8x1x4096x3, .f32⟩
  | .hbm, ⟨18, _⟩ => ⟨S8x4096x4096x3, .f32⟩
  | .hbm, ⟨19, _⟩ => ⟨S8x4096x4096x3, .f32⟩
  | .hbm, ⟨20, _⟩ => ⟨S8x4096x4096x3, .f32⟩
  | .hbm, ⟨21, _⟩ => ⟨S8x4096x4096x3, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x16, .f32⟩
  | .hbm, ⟨26, _⟩ => ⟨S8x4096x16, .i32⟩
  | .hbm, ⟨27, _⟩ => ⟨S8x4096, .i32⟩
  | .hbm, ⟨28, _⟩ => ⟨S8x4096x64, .f32⟩
  | .hbm, ⟨29, _⟩ => ⟨S_, .i32⟩
  | .hbm, ⟨30, _⟩ => ⟨S8x4096x16, .i32⟩
  | .hbm, ⟨31, _⟩ => ⟨S8x4096x16, .i1⟩
  | .hbm, ⟨32, _⟩ => ⟨S_, .i32⟩
  | .hbm, ⟨33, _⟩ => ⟨S8x4096x16, .i32⟩
  | .hbm, ⟨34, _⟩ => ⟨S8x4096x16, .i32⟩
  | .hbm, ⟨35, _⟩ => ⟨S8x4096x16, .i32⟩
  | .hbm, ⟨36, _⟩ => ⟨S8x4096x16x1, .i32⟩
  | .hbm, ⟨37, _⟩ => ⟨S8x4096x16, .i32⟩
  | .hbm, ⟨38, _⟩ => ⟨S_, .i32⟩
  | .hbm, ⟨39, _⟩ => ⟨S8x4096x16, .i32⟩
  | .hbm, ⟨40, _⟩ => ⟨S8x4096x16, .i1⟩
  | .hbm, ⟨41, _⟩ => ⟨S_, .i32⟩
  | .hbm, ⟨42, _⟩ => ⟨S8x4096x16, .i32⟩
  | .hbm, ⟨43, _⟩ => ⟨S8x4096x16, .i32⟩
  | .hbm, ⟨44, _⟩ => ⟨S8x4096x16, .i32⟩
  | .hbm, ⟨45, _⟩ => ⟨S8x4096x16x1, .i32⟩
  | .hbm, ⟨46, _⟩ => ⟨S8x4096x16x64, .f32⟩
  | .hbm, ⟨47, _⟩ => ⟨S8x4096x1, .i32⟩
  | .hbm, ⟨48, _⟩ => ⟨S_, .i32⟩
  | .hbm, ⟨49, _⟩ => ⟨S8x4096x1, .i32⟩
  | .hbm, ⟨50, _⟩ => ⟨S8x4096x1, .i1⟩
  | .hbm, ⟨51, _⟩ => ⟨S_, .i32⟩
  | .hbm, ⟨52, _⟩ => ⟨S8x4096x16, .i32⟩
  | .hbm, ⟨53, _⟩ => ⟨S8x4096x16, .i1⟩
  | .hbm, ⟨54, _⟩ => ⟨S8x4096x16, .i1⟩
  | .hbm, ⟨55, _⟩ => ⟨S8x4096x16, .i1⟩
  | .hbm, ⟨56, _⟩ => ⟨S8x4096x1, .i32⟩
  | .hbm, ⟨57, _⟩ => ⟨S8x4096x16, .i32⟩
  | .hbm, ⟨58, _⟩ => ⟨S8x4096x16, .i1⟩
  | .hbm, ⟨59, _⟩ => ⟨S8x4096x16, .i1⟩
  | .hbm, ⟨60, _⟩ => ⟨S8x4096x1, .i32⟩
  | .hbm, ⟨61, _⟩ => ⟨S8x4096x16, .i32⟩
  | .hbm, ⟨62, _⟩ => ⟨S8x4096x16, .i1⟩
  | .hbm, ⟨63, _⟩ => ⟨S8x4096x16, .i1⟩
  | .hbm, ⟨64, _⟩ => ⟨S8x4096x1x64, .f32⟩
  | .hbm, ⟨65, _⟩ => ⟨S8x4096x16x64, .f32⟩
  | .hbm, ⟨66, _⟩ => ⟨S8x4096x16x64, .f32⟩
  | .hbm, ⟨67, _⟩ => ⟨S_, .f32⟩
  | .hbm, ⟨68, _⟩ => ⟨S8x4096x16, .f32⟩
  | .hbm, ⟨69, _⟩ => ⟨S8x4096x16, .f32⟩
  | .hbm, ⟨70, _⟩ => ⟨S8x4096x16, .f32⟩
  | .hbm, ⟨71, _⟩ => ⟨S_, .f32⟩
  | .hbm, ⟨72, _⟩ => ⟨S8x4096x16, .f32⟩
  | .hbm, ⟨73, _⟩ => ⟨S8x4096x16, .f32⟩
  | .hbm, ⟨74, _⟩ => ⟨S8x4096x16, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .i1⟩
  | .hbm, ⟨87, _⟩ => ⟨S_, .f32⟩
  | .hbm, ⟨88, _⟩ => ⟨S8x4096x16, .f32⟩
  | .hbm, ⟨89, _⟩ => ⟨S8x4096x16, .f32⟩
  | .hbm, ⟨90, _⟩ => ⟨S_, .f32⟩
  | .hbm, ⟨91, _⟩ => ⟨S8x4096x16, .f32⟩
  | .hbm, ⟨92, _⟩ => ⟨S8x4096x16, .f32⟩
  | .hbm, ⟨93, _⟩ => ⟨S8x4096x16, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_call1_v0 : Ref sig .tc := ⟨.hbm, 10, rfl⟩
abbrev main_call1_v1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_values : Ref sig .tc := ⟨.hbm, 25, rfl⟩
abbrev main_indices : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_c_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_7 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_cst_10 : Ref sig .tc := ⟨.hbm, 79, rfl⟩
abbrev main_call2_v0 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_v60 : Ref sig .tc := ⟨.hbm, 89, rfl⟩
abbrev main_call3_cst : Ref sig .tc := ⟨.hbm, 90, rfl⟩
abbrev main_call3_v0 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_v63 : Ref sig .tc := ⟨.hbm, 95, rfl⟩
abbrev main_cst_15 : Ref sig .tc := ⟨.hbm, 96, rfl⟩
abbrev main_v64 : Ref sig .tc := ⟨.hbm, 97, rfl⟩
abbrev main_v65 : Ref sig .tc := ⟨.hbm, 98, rfl⟩
abbrev main_cst_16 : Ref sig .tc := ⟨.hbm, 99, rfl⟩
abbrev main_call4_v0 : Ref sig .tc := ⟨.hbm, 100, rfl⟩
abbrev main_v66 : Ref sig .tc := ⟨.hbm, 101, rfl⟩
abbrev main_cst_17 : Ref sig .tc := ⟨.hbm, 102, rfl⟩
abbrev main_v67 : Ref sig .tc := ⟨.hbm, 103, rfl⟩
abbrev main_v68 : Ref sig .tc := ⟨.hbm, 104, rfl⟩
abbrev main_cst_18 : Ref sig .tc := ⟨.hbm, 105, rfl⟩
abbrev main_v69 : Ref sig .tc := ⟨.hbm, 106, rfl⟩

abbrev nD : Nat := 1
abbrev τ : Topo := Topo.v7x

variable {F : FTy → Type} [FloatOps F]
-- ==== Proof.Select.lean ====
module

public import Idealize.ShloMosaic.PureOps.Ideal.Laws

@[expose] public section

noncomputable section

/-!
The selection the kernel makes on one query row, as pure mathematics on the extended reals: a sorting network that
keeps the four least of sixteen values per lane, and rounds that take the least value off the lanes' heads. Everything is
proved by counting: a sorted quadruple is determined by how many values lie at or below each level.
-/

namespace Cert.Knn

section Net
variable {α : Type} [LinearOrder α]

/-- The five comparators that sort four values. -/
def sort4 (a b c d : α) : α × α × α × α :=
  let a1 := min a b
  let b1 := max a b
  let c1 := min c d
  let d1 := max c d
  let a2 := min a1 c1
  let c2 := max a1 c1
  let b2 := min b1 d1
  let d2 := max b1 d1
  (a2, min b2 c2, max b2 c2, d2)

/-- The least four of two sorted quadruples, sorted. -/
def merge4 (x y : α × α × α × α) : α × α × α × α :=
  let m0 := min x.1 y.2.2.2
  let m1 := min x.2.1 y.2.2.1
  let m2 := min x.2.2.1 y.2.1
  let m3 := min x.2.2.2 y.1
  let n0 := min m0 m2
  let n2 := max m0 m2
  let n1 := min m1 m3
  let n3 := max m1 m3
  (min n0 n1, max n0 n1, min n2 n3, max n2 n3)

/-- The least four of sixteen values, sorted: four sorted quadruples merged in pairs. -/
def topFour (v : Fin 16 → α) : α × α × α × α :=
  merge4 (merge4 (sort4 (v 0) (v 1) (v 2) (v 3)) (sort4 (v 4) (v 5) (v 6) (v 7)))
    (merge4 (sort4 (v 8) (v 9) (v 10) (v 11)) (sort4 (v 12) (v 13) (v 14) (v 15)))

/-- Of the values a quadruple stands for, `n` are at most `x`, as far as four registers can tell. -/
def Counts (q : α × α × α × α) (x : α) (n : ℕ) : Prop :=
  (q.1 ≤ x ↔ 0 < n) ∧ (q.2.1 ≤ x ↔ 1 < n) ∧ (q.2.2.1 ≤ x ↔ 2 < n) ∧ (q.2.2.2 ≤ x ↔ 3 < n)

/-- One if the value is at most the level, else zero. -/
def below (a x : α) : ℕ := if a ≤ x then 1 else 0

/-- The network on four values counts them. -/
theorem counts_sort4 (a b c d x : α) :
    Counts (sort4 a b c d) x (below a x + below b x + below c x + below d x) := by
  unfold Counts sort4 below
  simp only [min_le_iff, max_le_iff]
  by_cases ha : a ≤ x <;> by_cases hb : b ≤ x <;> by_cases hc : c ≤ x <;> by_cases hd : d ≤ x <;>
    simp [ha, hb, hc, hd]

/-- Merging two quadruples adds their counts. -/
theorem counts_merge4 (q r : α × α × α × α) (x : α) (m n : ℕ) (hq : Counts q x m) (hr : Counts r x n) :
    Counts (merge4 q r) x (m + n) := by
  obtain ⟨h0, h1, h2, h3⟩ := hq
  obtain ⟨g0, g1, g2, g3⟩ := hr
  unfold Counts merge4
  simp only [min_le_iff, max_le_iff, h0, h1, h2, h3, g0, g1, g2, g3]
  omega

/-- The whole network counts the sixteen values. -/
theorem counts_topFour (v : Fin 16 → α) (x : α) : Counts (topFour v) x (∑ j, below (v j) x) := by
  have h := counts_merge4 _ _ x _ _
    (counts_merge4 _ _ x _ _ (counts_sort4 (v 0) (v 1) (v 2) (v 3) x) (counts_sort4 (v 4) (v 5) (v 6) (v 7) x))
    (counts_merge4 _ _ x _ _ (counts_sort4 (v 8) (v 9) (v 10) (v 11) x) (counts_sort4 (v 12) (v 13) (v 14) (v 15) x))
  have e : (∑ j, below (v j) x) = (below (v 0) x + below (v 1) x + below (v 2) x + below (v 3) x
      + (below (v 4) x + below (v 5) x + below (v 6) x + below (v 7) x))
      + ((below (v 8) x + below (v 9) x + below (v 10) x + below (v 11) x)
      + (below (v 12) x + below (v 13) x + below (v 14) x + below (v 15) x)) := by
    simp only [Fin.sum_univ_succ, Fin.sum_univ_zero]
    simp only [← add_assoc, add_zero]
    rfl
  rw [e]
  exact h

end Net

section Rounds
variable {L : Type} [Fintype L] [DecidableEq L]

/-- A lane's quadruple with its head taken off. -/
def shift (q : EReal × EReal × EReal × EReal) : EReal × EReal × EReal × EReal := (q.2.1, q.2.2.1, q.2.2.2, ⊤)

/-- The least of the lanes' heads. -/
def rowMin (s : L → EReal × EReal × EReal × EReal) : EReal := Finset.univ.inf fun l => (s l).1

/-- One round: every lane whose head is the least loses it. -/
def round (s : L → EReal × EReal × EReal × EReal) : L → EReal × EReal × EReal × EReal :=
  fun l => if (s l).1 ≤ rowMin s then shift (s l) else s l

/-- How many of the first `k` chosen values lie in lane `l`. -/
def taken (lane : Fin 16 → L) (k : ℕ) (l : L) : ℕ := (Finset.univ.filter fun r : Fin 16 => r.val < k ∧ lane r = l).card

/-- The registers of a lane after `c` of its values were taken, of `n` at most the level: the `i`-th holds the value of
    rank `c + i`, as long as there are registers. -/
def Left (q : EReal × EReal × EReal × EReal) (x : EReal) (c n : ℕ) : Prop :=
  (q.1 ≤ x ↔ c < min 4 n) ∧ (q.2.1 ≤ x ↔ 1 + c < min 4 n) ∧ (q.2.2.1 ≤ x ↔ 2 + c < min 4 n)
    ∧ (q.2.2.2 ≤ x ↔ 3 + c < min 4 n)

/-- One more of the chosen values is counted in its own lane only. -/
theorem taken_succ (lane : Fin 16 → L) (k : Fin 16) (l : L) :
    taken lane (k.val + 1) l = taken lane k.val l + if lane k = l then 1 else 0 := by
  unfold taken
  split
  · next h =>
    have e : (Finset.univ.filter fun r : Fin 16 => r.val < k.val + 1 ∧ lane r = l)
        = insert k (Finset.univ.filter fun r : Fin 16 => r.val < k.val ∧ lane r = l) := by
      ext r
      simp only [Finset.mem_filter, Finset.mem_univ, true_and, Finset.mem_insert]
      constructor
      · rintro ⟨h1, h2⟩
        by_cases hr : r = k
        · exact Or.inl hr
        · exact Or.inr ⟨lt_of_le_of_ne (Nat.lt_succ_iff.mp h1) fun e => hr (Fin.ext e), h2⟩
      · rintro (h1 | ⟨h1, h2⟩)
        · subst h1; exact ⟨Nat.lt_succ_self _, h⟩
        · exact ⟨Nat.lt_succ_of_lt h1, h2⟩
    rw [e, Finset.card_insert_of_notMem (by simp)]
  · next h =>
    rw [Nat.add_zero (Finset.card _)]
    refine congrArg Finset.card (Finset.ext fun r => ?_)
    simp only [Finset.mem_filter, Finset.mem_univ, true_and]
    constructor
    · rintro ⟨h1, h2⟩
      refine ⟨lt_of_le_of_ne (Nat.lt_succ_iff.mp h1) fun e => h ?_, h2⟩
      rw [← h2, Fin.ext e]
    · rintro ⟨h1, h2⟩
      exact ⟨Nat.lt_succ_of_lt h1, h2⟩

/-- The chosen values seen so far are not more than the chosen values. -/
theorem taken_le (lane : Fin 16 → L) (k : ℕ) (l : L) : taken lane k l ≤ taken lane 16 l := by
  unfold taken
  apply Finset.card_le_card
  intro r
  simp only [Finset.mem_filter, Finset.mem_univ, true_and]
  exact fun h => ⟨r.isLt, h.2⟩

/-- The facts about the sixteen chosen values `d`, the lanes they lie in and the counts of all values per lane that make the
    rounds take exactly them, in order. -/
structure Chosen (cnt : L → EReal → ℕ) (d : Fin 16 → EReal) (lane : Fin 16 → L) : Prop where
  /-- Below the `k`-th chosen value lie only earlier chosen ones. -/
  before : ∀ k l x, x < d k → cnt l x ≤ taken lane k.val l
  /-- At or below the `k`-th chosen value lie the chosen ones up to it, and no other. -/
  upto : ∀ k l, cnt l (d k) = taken lane (k.val + 1) l
  /-- No lane holds more than four chosen values. -/
  four : ∀ l, taken lane 16 l ≤ 4
  /-- The chosen values are below infinity. -/
  fin : ∀ k, d k < ⊤

variable {cnt : L → EReal → ℕ} {d : Fin 16 → EReal} {lane : Fin 16 → L}

/-- The least head before round `k` is the `k`-th chosen value. -/
theorem rowMin_of_left (h : Chosen cnt d lane) (s : L → EReal × EReal × EReal × EReal) (k : Fin 16)
    (hs : ∀ l x, x < ⊤ → Left (s l) x (taken lane k.val l) (cnt l x)) : rowMin s = d k := by
  apply le_antisymm
  · refine (Finset.inf_le (Finset.mem_univ (lane k))).trans ?_
    refine (hs _ _ (h.fin k)).1.mpr ?_
    have e := taken_succ lane k (lane k)
    rw [if_pos rfl] at e
    have h4 := taken_le lane (k.val + 1) (lane k)
    have := h.four (lane k)
    rw [h.upto]
    omega
  · refine Finset.le_inf fun l _ => ?_
    by_contra hlt
    have hlt := not_le.mp hlt
    have h1 := (hs l _ (hlt.trans (h.fin k))).1.mp le_rfl
    have h2 := h.before k l _ hlt
    omega

/-- A round takes the `k`-th chosen value out of its lane and leaves the other lanes alone. -/
theorem left_round (h : Chosen cnt d lane) (s : L → EReal × EReal × EReal × EReal) (k : Fin 16)
    (hs : ∀ l x, x < ⊤ → Left (s l) x (taken lane k.val l) (cnt l x)) (l : L) (x : EReal) (hx : x < ⊤) :
    Left (round s l) x (taken lane (k.val + 1) l) (cnt l x) := by
  have hm := rowMin_of_left h s k hs
  have hsel := (hs l _ (h.fin k)).1
  rw [h.upto, taken_succ] at hsel
  have h4 := taken_le lane (k.val + 1) l
  have h4' := h.four l
  rw [taken_succ] at h4
  unfold round
  rw [hm, taken_succ]
  obtain ⟨g0, g1, g2, g3⟩ := hs l x hx
  by_cases hl : lane k = l
  · rw [if_pos hl] at hsel h4 ⊢
    rw [if_pos (hsel.mpr (by omega))]
    unfold Left shift
    refine ⟨?_, ?_, ?_, ?_⟩
    · rw [g1]; omega
    · rw [g2]; omega
    · rw [g3]; omega
    · exact ⟨fun e => absurd hx (not_lt.mpr e), fun e => by omega⟩
  · rw [if_neg hl] at hsel h4 ⊢
    rw [if_neg (fun e => by have := hsel.mp e; omega)]
    exact ⟨g0, g1, g2, g3⟩

/-- Before any round nothing is taken. -/
theorem left_zero (s : L → EReal × EReal × EReal × EReal) (hs : ∀ l x, Counts (s l) x (cnt l x)) (l : L) (x : EReal) :
    Left (s l) x (taken lane 0 l) (cnt l x) := by
  have e : taken lane 0 l = 0 := by unfold taken; simp
  obtain ⟨g0, g1, g2, g3⟩ := hs l x
  rw [e]
  unfold Left
  rw [g0, g1, g2, g3]
  omega

/-- Round by round, the least head is the next chosen value. -/
theorem rowMin_iterate (h : Chosen cnt d lane) (s : L → EReal × EReal × EReal × EReal)
    (hs : ∀ l x, Counts (s l) x (cnt l x)) (k : Fin 16) : rowMin (round^[k.val] s) = d k := by
  have main : ∀ n, (hn : n < 16) → ∀ l x, x < ⊤ → Left (round^[n] s l) x (taken lane n l) (cnt l x) := by
    intro n
    induction n with
    | zero => exact fun _ l x _ => left_zero s hs l x
    | succ n ih =>
      intro hn l x hx
      rw [Function.iterate_succ_apply']
      exact left_round h _ ⟨n, by omega⟩ (ih (by omega)) l x hx
  exact rowMin_of_left h _ k (main k.val k.isLt)

end Rounds

end Cert.Knn

end

end
-- ==== Proof.Block.lean ====
module

public import proofs.«01_k».proof.Proof.Gen.KernelIdeal.Skeleton
public import proofs.«01_k».proof.Proof.Select
public import Idealize.ShloMosaic.Lib.ValueIdxCore
public import Idealize.ShloMosaic.Lib.ValueLayout
public import Idealize.ShloMosaic.Lib.Pointwise.Reduce

@[expose] public section

noncomputable section

open Idealize.ShloMosaic Idealize.ShloMosaic.TcCoe

/-!
The vectors one grid point computes, named: the squared distances of sixteen column blocks, the registers after the sorting
network, the rounds on the registers, the masks and the block sums. Each lemma reads some of the point's values as these.
-/

namespace Cert.KernelIdeal.Block

open Cert.KernelIdeal Cert.KernelIdeal.Gen

/-- Column `l` of column block `j`. -/
def col (j : Fin 16) (l : Fin 256) : Fin 4096 := ⟨j.val * 256 + l.val, by omega⟩

/-- The square of the difference of coordinate `k` of a query row and of a column. -/
def sq (x0 : Vec Ideal S512x3 .f32) (x1 : Vec Ideal S3x4096 .f32) (j : Fin 16) (i : S512x256.Idx) (k : Fin 3) : Ideal .f32 :=
  FloatOps.mulf (FloatOps.subf (x0 (ix2 (i 0) k)) (x1 (ix2 k (col j (i 1)))))
    (FloatOps.subf (x0 (ix2 (i 0) k)) (x1 (ix2 k (col j (i 1)))))

/-- The squared distances of the query rows to the columns of block `j`. -/
def dist (x0 : Vec Ideal S512x3 .f32) (x1 : Vec Ideal S3x4096 .f32) (j : Fin 16) : FVec Ideal S512x256 .f32 := fun i =>
  FloatOps.addf (FloatOps.addf (FloatOps.addf (Scalar.ofBits .f32 0x00000000#32) (sq x0 x1 j i 0)) (sq x0 x1 j i 1)) (sq x0 x1 j i 2)

/-- A coordinate column of the queries spread over the lanes. -/
theorem spread_col {α : Type} (k : Nat) (x0 : S512x3.Idx → α) (hs : S512x3.Slices ![0, k] S512x1) (hb : S512x1.Broadcasts S512x256) :
    broadcastTo S512x256 (extractStridedSlice S512x1 ![0, k] x0 hs) hb
      = fun i => x0 (ix2 (i 0) ⟨k, by have := hs.2 1; simpa using this⟩) := by
  funext i
  refine (broadcastTo_apply _ hb i (ix2 (i 0) (0 : Fin 1)) fun ax => ?_).trans ?_
  · match ax with
    | ⟨0, _⟩ => rfl
    | ⟨1, _⟩ => rfl
  · refine extractStridedSlice_apply _ _ _ _ _ fun ax => ?_
    match ax with
    | ⟨0, _⟩ => exact (Nat.zero_add _).symm
    | ⟨1, _⟩ => rfl

/-- A coordinate row of a column block spread over the queries. -/
theorem spread_row {α : Type} {n : Nat} (k o : Nat) (x1 : (⟨2, ![n, 4096]⟩ : Shape).Idx → α) (hs : (⟨2, ![n, 4096]⟩ : Shape).Slices ![k, o] S1x256) (hb : S1x256.Broadcasts S512x256) :
    broadcastTo S512x256 (extractStridedSlice S1x256 ![k, o] x1 hs) hb
      = fun i => x1 (ix2 ⟨k, by have := hs.2 0; simpa using this⟩ ⟨o + (i 1).val, by have := hs.2 1; have := (i 1).isLt; simp at *; omega⟩) := by
  funext i
  refine (broadcastTo_apply _ hb i (ix2 (0 : Fin 1) (i 1)) fun ax => ?_).trans ?_
  · match ax with
    | ⟨0, _⟩ => rfl
    | ⟨1, _⟩ => rfl
  · refine extractStridedSlice_apply _ _ _ _ _ fun ax => ?_
    match ax with
    | ⟨0, _⟩ => rfl
    | ⟨1, _⟩ => rfl

section Dist
variable (x0 : Vec Ideal S512x3 .f32) (x1 : Vec Ideal S3x4096 .f32)

/-- The sixteen column blocks of squared distances, as the point computes each. -/
theorem dists :
    (k0_pay13 (k0_pay5 x1) x0 (k0_pay11 x1 x0) (k0_pay12 x1 x0) = dist x0 x1 0)
    ∧ (k0_pay14 (k0_pay5 x1) x0 = dist x0 x1 1)
    ∧ (k0_pay15 (k0_pay5 x1) x0 = dist x0 x1 2)
    ∧ (k0_pay19 (k0_pay5 x1) x0 k0_pay16 (k0_pay17 x0) (k0_pay18 (k0_pay5 x1)) = dist x0 x1 3)
    ∧ (k0_pay20 (k0_pay5 x1) x0 = dist x0 x1 4)
    ∧ (k0_pay24 (k0_pay21 (k0_pay5 x1) x0) (k0_pay22 x0) (k0_pay23 (k0_pay5 x1)) = dist x0 x1 5)
    ∧ (k0_pay25 (k0_pay5 x1) x0 = dist x0 x1 6)
    ∧ (k0_pay26 (k0_pay5 x1) x0 = dist x0 x1 7)
    ∧ (k0_pay30 (k0_pay5 x1) x0 (k0_pay27 (k0_pay5 x1) x0) (k0_pay28 x0) (k0_pay29 (k0_pay5 x1)) = dist x0 x1 8)
    ∧ (k0_pay31 (k0_pay5 x1) x0 = dist x0 x1 9)
    ∧ (k0_pay32 (k0_pay5 x1) x0 = dist x0 x1 10)
    ∧ (k0_pay34 (k0_pay5 x1) x0 k0_pay33 = dist x0 x1 11)
    ∧ (k0_pay35 (k0_pay5 x1) x0 = dist x0 x1 12)
    ∧ (k0_pay37 (k0_pay5 x1) x0 (k0_pay36 (k0_pay5 x1) x0) = dist x0 x1 13)
    ∧ (k0_pay38 (k0_pay5 x1) x0 = dist x0 x1 14)
    ∧ (k0_pay39 (k0_pay5 x1) x0 = dist x0 x1 15) := by
  refine ⟨?_, ?_, ?_, ?_, ?_, ?_, ?_, ?_, ?_, ?_, ?_, ?_, ?_, ?_, ?_, ?_⟩ <;>
  · simp only [k0_pay5, k0_pay11, k0_pay12, k0_pay13, k0_pay14, k0_pay15, k0_pay16, k0_pay17, k0_pay18, k0_pay19, k0_pay20,
      k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, spread_col, spread_row,
      shapeCast_self]
    rfl

end Dist

/-- The four registers of every lane and query, as vectors. -/
abbrev Regs : Type := FVec Ideal S512x256 .f32 × FVec Ideal S512x256 .f32 × FVec Ideal S512x256 .f32 × FVec Ideal S512x256 .f32

/-- The least of a vector over the lanes, one per query. -/
def least (v : FVec Ideal S512x256 .f32) : FVec Ideal S512x1 .f32 :=
  shapeCast S512x1 (multiReduction .minimumf [1] S512 v 0x7F800000#32 reduces_S512x256_S512 (.inl rfl) rfl) shapeCasts_S512_S512x1

/-- The lanes whose head is at most the least head of the query. -/
def hit (v : FVec Ideal S512x256 .f32) : IVec S512x256 1 :=
  cmpf .ole v (broadcastTo S512x256 (least v) broadcasts_S512x1_S512x256)

/-- One round: the lanes that are hit move their registers down by one. -/
def step (s : Regs) : Regs :=
  (select (hit s.1) s.2.1 s.1, select (hit s.1) s.2.2.1 s.2.1, select (hit s.1) s.2.2.2 s.2.2.1,
    select (hit s.1) (broadcast S512x256 (FloatOps.ofBits .f32 0x7F800000#32)) s.2.2.2)

/-- The registers after the sorting network. -/
def sorted (d : Fin 16 → FVec Ideal S512x256 .f32) : Regs :=
  (fun i => (Cert.Knn.topFour fun j => d j i).1, fun i => (Cert.Knn.topFour fun j => d j i).2.1,
    fun i => (Cert.Knn.topFour fun j => d j i).2.2.1, fun i => (Cert.Knn.topFour fun j => d j i).2.2.2)

section Rounds
variable (v414 v417 v418 v419 v424 v427 v428 v429 v434 v435 v436 v437 v438 : FVec Ideal S512x256 .f32)

/-- The first three rounds: each register after them, from the registers of the network. -/
theorem first :
    (k0_pay115 v414 v417 v418 v419 v424 v427 v428 v429 v434 v435 v436 v437 v438 = (step^[3] (k0_pay100 v414 v417 v418 v419 v424 v427 v428 v429 v434 v435 v436 v437 v438, k0_pay101 v414 v417 v418 v419 v424 v427 v428 v429 v434 v435 v436 v437 v438, k0_pay102 v414 v417 v418 v419 v424 v427 v428 v429 v434 v435 v436 v437 v438, k0_pay103 v414 v417 v418 v419 v424 v427 v428 v429 v434 v435 v436 v437 v438)).1)
    ∧ (k0_pay116 v414 v417 v418 v419 v424 v427 v428 v429 v434 v435 v436 v437 v438 = (step^[3] (k0_pay100 v414 v417 v418 v419 v424 v427 v428 v429 v434 v435 v436 v437 v438, k0_pay101 v414 v417 v418 v419 v424 v427 v428 v429 v434 v435 v436 v437 v438, k0_pay102 v414 v417 v418 v419 v424 v427 v428 v429 v434 v435 v436 v437 v438, k0_pay103 v414 v417 v418 v419 v424 v427 v428 v429 v434 v435 v436 v437 v438)).2.1)
    ∧ (k0_pay117 v414 v417 v418 v419 v424 v427 v428 v429 v434 v435 v436 v437 v438 = (step^[3] (k0_pay100 v414 v417 v418 v419 v424 v427 v428 v429 v434 v435 v436 v437 v438, k0_pay101 v414 v417 v418 v419 v424 v427 v428 v429 v434 v435 v436 v437 v438, k0_pay102 v414 v417 v418 v419 v424 v427 v428 v429 v434 v435 v436 v437 v438, k0_pay103 v414 v417 v418 v419 v424 v427 v428 v429 v434 v435 v436 v437 v438)).2.2.1)
    ∧ (k0_pay118 v414 v417 v418 v419 v424 v427 v428 v429 v434 v435 v436 v437 v438 = (step^[3] (k0_pay100 v414 v417 v418 v419 v424 v427 v428 v429 v434 v435 v436 v437 v438, k0_pay101 v414 v417 v418 v419 v424 v427 v428 v429 v434 v435 v436 v437 v438, k0_pay102 v414 v417 v418 v419 v424 v427 v428 v429 v434 v435 v436 v437 v438, k0_pay103 v414 v417 v418 v419 v424 v427 v428 v429 v434 v435 v436 v437 v438)).2.2.2) := by
  refine ⟨?_, ?_, ?_, ?_⟩ <;>
  · simp only [k0_pay104, k0_pay105, k0_pay106, k0_pay107, k0_pay108, k0_pay109, k0_pay110, k0_pay111, k0_pay112, k0_pay113,
      k0_pay114, k0_pay115, k0_pay116, k0_pay117, k0_pay118]
    rfl

end Rounds

section Later
variable (s : Regs)

set_option maxHeartbeats 1600000 in
/-- The next five rounds, register by register. -/
theorem second :
    (k0_pay140 s.1 s.2.1 s.2.2.1 s.2.2.2 = (step^[5] s).1)
    ∧ (k0_pay141 s.1 s.2.1 s.2.2.1 s.2.2.2 = (step^[5] s).2.1)
    ∧ (k0_pay142 s.1 s.2.1 s.2.2.1 s.2.2.2 = (step^[5] s).2.2.1)
    ∧ (k0_pay143 s.1 s.2.1 s.2.2.1 s.2.2.2 = (step^[5] s).2.2.2) := by
  refine ⟨?_, ?_, ?_, ?_⟩ <;>
  · simp only [k0_pay119, k0_pay120, k0_pay121, k0_pay122, k0_pay123, k0_pay124, k0_pay125, k0_pay126, k0_pay127, k0_pay128,
      k0_pay129, k0_pay130, k0_pay131, k0_pay132, k0_pay133, k0_pay134, k0_pay135, k0_pay136, k0_pay137, k0_pay138,
      k0_pay139, k0_pay140, k0_pay141, k0_pay142, k0_pay143]
    rfl

/-- The lanes that the ninth round hits. -/
theorem second_hit : k0_pay144 s.1 s.2.1 s.2.2.1 s.2.2.2 = hit (step^[5] s).1 := by
  simp only [k0_pay144, second]
  rfl

/-- The comparison with the least head, folded. -/
theorem fold_hit (v : FVec Ideal S512x256 .f32) : cmpf .ole v (broadcastTo S512x256 (shapeCast S512x1
    (multiReduction .minimumf [1] S512 v 0x7F800000#32 reduces_S512x256_S512 (.inl rfl) rfl) shapeCasts_S512_S512x1)
    broadcasts_S512x1_S512x256) = hit v := rfl

/-- A round's first register, folded. -/
theorem fold_0 : select (hit s.1) s.2.1 s.1 = (step s).1 := rfl

/-- A round's second register, folded. -/
theorem fold_1 : select (hit s.1) s.2.2.1 s.2.1 = (step s).2.1 := rfl

/-- A round's third register, folded. -/
theorem fold_2 : select (hit s.1) s.2.2.2 s.2.2.1 = (step s).2.2.1 := rfl

/-- A round's last register, folded: a hit lane takes infinity. -/
theorem fold_3 : select (hit s.1) (broadcast S512x256 (FloatOps.ofBits .f32 0x7F800000#32)) s.2.2.2 = (step s).2.2.2 := rfl

/-- The last seven rounds, on the first register. -/
theorem third : k0_pay145 s.1 s.2.1 s.2.2.1 s.2.2.2 (hit s.1) = (step^[7] s).1 := by
  simp only [k0_pay145, fold_0, fold_1, fold_2, fold_3]
  rw [fold_hit (step s).1]
  simp only [fold_0, fold_1, fold_2, fold_3]
  rw [fold_hit (step (step s)).1]
  simp only [fold_0, fold_1, fold_2, fold_3]
  rw [fold_hit (step (step (step s))).1]
  simp only [fold_0, fold_1, fold_2, fold_3]
  rw [fold_hit (step (step (step (step s)))).1]
  simp only [fold_0, fold_1, fold_2, fold_3]
  rw [fold_hit (step (step (step (step (step s))))).1]
  simp only [fold_0, fold_1, fold_2, fold_3]
  rw [fold_hit (step (step (step (step (step (step s)))))).1]
  simp only [fold_0, fold_1, fold_2, fold_3]
  rfl

end Later

section Net
variable (d : Fin 16 → FVec Ideal S512x256 .f32)

/-- The sorting network leaves the four least of each lane, in order. -/
theorem net :
    (k0_pay100 (k0_pay59 (d 8) (d 9) (d 10) (d 11)) (k0_pay62 (d 8) (d 9) (d 10) (d 11)) (k0_pay63 (d 8) (d 9) (d 10) (d 11)) (k0_pay64 (d 8) (d 9) (d 10) (d 11)) (k0_pay69 (d 12) (d 13) (d 14) (d 15)) (k0_pay72 (d 12) (d 13) (d 14) (d 15)) (k0_pay73 (d 12) (d 13) (d 14) (d 15)) (k0_pay74 (d 12) (d 13) (d 14) (d 15)) (k0_pay79 (d 0) (d 1) (d 2) (d 3) (d 4) (d 5) (d 6) (d 7)) (k0_pay80 (d 0) (d 1) (d 2) (d 3) (d 4) (d 5) (d 6) (d 7)) (k0_pay81 (d 0) (d 1) (d 2) (d 3) (d 4) (d 5) (d 6) (d 7)) (k0_pay82 (d 0) (d 1) (d 2) (d 3) (d 4) (d 5) (d 6) (d 7)) (k0_pay83 (d 0) (d 1) (d 2) (d 3) (d 4) (d 5) (d 6) (d 7)) = (sorted d).1)
    ∧ (k0_pay101 (k0_pay59 (d 8) (d 9) (d 10) (d 11)) (k0_pay62 (d 8) (d 9) (d 10) (d 11)) (k0_pay63 (d 8) (d 9) (d 10) (d 11)) (k0_pay64 (d 8) (d 9) (d 10) (d 11)) (k0_pay69 (d 12) (d 13) (d 14) (d 15)) (k0_pay72 (d 12) (d 13) (d 14) (d 15)) (k0_pay73 (d 12) (d 13) (d 14) (d 15)) (k0_pay74 (d 12) (d 13) (d 14) (d 15)) (k0_pay79 (d 0) (d 1) (d 2) (d 3) (d 4) (d 5) (d 6) (d 7)) (k0_pay80 (d 0) (d 1) (d 2) (d 3) (d 4) (d 5) (d 6) (d 7)) (k0_pay81 (d 0) (d 1) (d 2) (d 3) (d 4) (d 5) (d 6) (d 7)) (k0_pay82 (d 0) (d 1) (d 2) (d 3) (d 4) (d 5) (d 6) (d 7)) (k0_pay83 (d 0) (d 1) (d 2) (d 3) (d 4) (d 5) (d 6) (d 7)) = (sorted d).2.1)
    ∧ (k0_pay102 (k0_pay59 (d 8) (d 9) (d 10) (d 11)) (k0_pay62 (d 8) (d 9) (d 10) (d 11)) (k0_pay63 (d 8) (d 9) (d 10) (d 11)) (k0_pay64 (d 8) (d 9) (d 10) (d 11)) (k0_pay69 (d 12) (d 13) (d 14) (d 15)) (k0_pay72 (d 12) (d 13) (d 14) (d 15)) (k0_pay73 (d 12) (d 13) (d 14) (d 15)) (k0_pay74 (d 12) (d 13) (d 14) (d 15)) (k0_pay79 (d 0) (d 1) (d 2) (d 3) (d 4) (d 5) (d 6) (d 7)) (k0_pay80 (d 0) (d 1) (d 2) (d 3) (d 4) (d 5) (d 6) (d 7)) (k0_pay81 (d 0) (d 1) (d 2) (d 3) (d 4) (d 5) (d 6) (d 7)) (k0_pay82 (d 0) (d 1) (d 2) (d 3) (d 4) (d 5) (d 6) (d 7)) (k0_pay83 (d 0) (d 1) (d 2) (d 3) (d 4) (d 5) (d 6) (d 7)) = (sorted d).2.2.1)
    ∧ (k0_pay103 (k0_pay59 (d 8) (d 9) (d 10) (d 11)) (k0_pay62 (d 8) (d 9) (d 10) (d 11)) (k0_pay63 (d 8) (d 9) (d 10) (d 11)) (k0_pay64 (d 8) (d 9) (d 10) (d 11)) (k0_pay69 (d 12) (d 13) (d 14) (d 15)) (k0_pay72 (d 12) (d 13) (d 14) (d 15)) (k0_pay73 (d 12) (d 13) (d 14) (d 15)) (k0_pay74 (d 12) (d 13) (d 14) (d 15)) (k0_pay79 (d 0) (d 1) (d 2) (d 3) (d 4) (d 5) (d 6) (d 7)) (k0_pay80 (d 0) (d 1) (d 2) (d 3) (d 4) (d 5) (d 6) (d 7)) (k0_pay81 (d 0) (d 1) (d 2) (d 3) (d 4) (d 5) (d 6) (d 7)) (k0_pay82 (d 0) (d 1) (d 2) (d 3) (d 4) (d 5) (d 6) (d 7)) (k0_pay83 (d 0) (d 1) (d 2) (d 3) (d 4) (d 5) (d 6) (d 7)) = (sorted d).2.2.2) := by
  refine ⟨?_, ?_, ?_, ?_⟩ <;>
  · simp only [k0_pay43, k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64,
      k0_pay65, k0_pay66, k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97,
      k0_pay98, k0_pay99, k0_pay100, k0_pay101, k0_pay102, k0_pay103]
    rfl

end Net

/-- The sum of a vector over the queries and lanes. -/
def whole (v : FVec Ideal S512x256 .f32) : Ideal .f32 :=
  extractAt ![0, 0, 0] (shapeCast S1x1x1 (multiReduction .add [1, 2] S1 (shapeCast S1x512x256 v shapeCasts_S512x256_S1x512x256)
    0x00000000#32 reduces_S1x512x256_S1 (.inl rfl) rfl) shapeCasts_S1_S1x1x1) inpos_S1x1x1_p0_0_0

/-- The sums of the sixteen column blocks, added in order. -/
def total (f : Fin 16 → FVec Ideal S512x256 .f32) : Ideal .f32 :=
  (Scalar.addf (Scalar.addf (Scalar.addf (Scalar.addf (Scalar.addf (Scalar.addf (Scalar.addf (Scalar.addf (Scalar.addf (Scalar.addf (Scalar.addf (Scalar.addf (Scalar.addf (Scalar.addf (Scalar.addf (Scalar.addf (FloatOps.ofBits .f32 0x00000000#32) (whole (f 0))) (whole (f 1))) (whole (f 2))) (whole (f 3))) (whole (f 4))) (whole (f 5))) (whole (f 6))) (whole (f 7))) (whole (f 8))) (whole (f 9))) (whole (f 10))) (whole (f 11))) (whole (f 12))) (whole (f 13))) (whole (f 14))) (whole (f 15)))

/-- The mask of the columns no farther than the level. -/
def near (d : Fin 16 → FVec Ideal S512x256 .f32) (t : FVec Ideal S512x1 .f32) (j : Fin 16) : FVec Ideal S512x256 .f32 :=
  select (cmpf .ole (d j) (broadcastTo S512x256 t broadcasts_S512x1_S512x256)) (broadcast S512x256 (FloatOps.ofBits .f32 0x3F800000#32))
    (broadcast S512x256 (FloatOps.ofBits .f32 0x00000000#32))

/-- Column block `j` of a row, the same for every query. -/
def rowOf (x5 : Vec Ideal S1x4096 .f32) (j : Fin 16) : FVec Ideal S512x256 .f32 := fun i => x5 (ix2 (0 : Fin 1) (col j (i 1)))

/-- Of those, the columns that carry the query's label. -/
def same (d : Fin 16 → FVec Ideal S512x256 .f32) (t : FVec Ideal S512x1 .f32) (x4 : Vec Ideal S512x1 .f32) (x5 : Vec Ideal S1x4096 .f32)
    (j : Fin 16) : FVec Ideal S512x256 .f32 :=
  select (cmpf .oeq (broadcastTo S512x256 x4 broadcasts_S512x1_S512x256) (rowOf x5 j))
    (near d t j) (broadcast S512x256 (FloatOps.ofBits .f32 0x00000000#32))

/-- Column block `j` of a matrix over all columns. -/
def block (cs : FVec Ideal S512x4096 .f32) (j : Fin 16) : FVec Ideal S512x256 .f32 := fun i => cs (ix2 (i 0) (col j (i 1)))

/-- The hinge of the similarities of a column block. -/
def hinge (cs : FVec Ideal S512x4096 .f32) (j : Fin 16) : FVec Ideal S512x256 .f32 :=
  maximumf (subf (block cs j) (broadcast S512x256 (FloatOps.ofBits .f32 0x3F000000#32))) (broadcast S512x256 (FloatOps.ofBits .f32 0x00000000#32))

/-- A column block cut out of a matrix. -/
theorem cut_block {α : Type} (o : Nat) (cs : S512x4096.Idx → α) (hs : S512x4096.Slices ![0, o] S512x256) :
    extractStridedSlice S512x256 ![0, o] cs hs
      = fun i => cs (ix2 (i 0) ⟨o + (i 1).val, by have := hs.2 1; have := (i 1).isLt; simp at *; omega⟩) := by
  funext i
  refine extractStridedSlice_apply _ _ _ _ _ fun ax => ?_
  match ax with
  | ⟨0, _⟩ => exact (Nat.zero_add _).symm
  | ⟨1, _⟩ => rfl

end Cert.KernelIdeal.Block

end
-- ==== Proof.BlockOut.lean ====
module

public import proofs.«01_k».proof.Proof.Gen.KernelIdeal.Frame
public import proofs.«01_k».proof.Proof.Block
public import Idealize.ShloMosaic.Lib.Pipeline.Value
public import Idealize.ShloMosaic.Lib.Tactic

@[expose] public section

noncomputable section

open Idealize.ShloMosaic Idealize.ShloMosaic.TcCoe Idealize.SL.Sem

/-!
What one grid point leaves in the four accumulators, as the named vectors: the accumulator's value before, or zero at the
first point, plus the sum of the point's block.
-/

namespace Cert.KernelIdeal.Block

open Cert.KernelIdeal Cert.KernelIdeal.Gen

/-- The zero offsets, as a constant function. -/
theorem hz : (![0, 0] : Fin 2 → Nat) = fun _ => 0 := funext fun a => by fin_cases a <;> rfl

/-- The level of every query: the head of the least lane after fifteen rounds. -/
def level (x0 : Vec Ideal S512x3 .f32) (x1 : Vec Ideal S3x4096 .f32) : FVec Ideal S512x1 .f32 :=
  least (step^[15] (sorted (dist x0 x1))).1

/-- The cosine similarities of the query rows to all columns, as the point computes them. -/
def cosine (x2 : Vec Ideal S512x64 .f32) (x3 : Vec Ideal S64x4096 .f32) : FVec Ideal S512x4096 .f32 :=
  k0_pay42 (k0_pay7 x3) (k0_pay8 x3) x2 (k0_pay40 x2) k0_pay41

section Adds
variable (x0 : Vec Ideal S512x3 .f32) (x1 : Vec Ideal S3x4096 .f32) (x2 : Vec Ideal S512x64 .f32) (x3 : Vec Ideal S64x4096 .f32)
  (x4 : Vec Ideal S512x1 .f32) (x5 : Vec Ideal S1x4096 .f32)

/-- The block's count of positive pairs. -/
def addPosCount : Ideal .f32 := total (same (dist x0 x1) (level x0 x1) x4 x5)

/-- The block's sum of one minus the similarity over positive pairs. -/
def addPos : Ideal .f32 :=
  Scalar.subf (addPosCount x0 x1 x4 x5) (total fun j => mulf (block (cosine x2 x3) j) (same (dist x0 x1) (level x0 x1) x4 x5 j))

/-- The block's sum of hinges over negative pairs. -/
def addNeg : Ideal .f32 :=
  total fun j => mulf (hinge (cosine x2 x3) j) (subf (near (dist x0 x1) (level x0 x1) j) (same (dist x0 x1) (level x0 x1) x4 x5 j))

/-- The block's count of negative pairs. -/
def addNegCount : Ideal .f32 :=
  Scalar.subf (total (near (dist x0 x1) (level x0 x1))) (addPosCount x0 x1 x4 x5)

end Adds

section Out
variable (c : Dev nD) (i : grid0.Coords) (arg2 : Memref sig .tc .vmem S512x3 .f32) (harg2 : arg2.IsWhole) (arg3 : Memref sig .tc .vmem S3x4096 .f32) (harg3 : arg3.IsWhole) (arg4 : Memref sig .tc .vmem S512x64 .f32) (harg4 : arg4.IsWhole) (arg5 : Memref sig .tc .vmem S64x4096 .f32) (harg5 : arg5.IsWhole) (arg6 : Memref sig .tc .vmem S512x1 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole)
  (x0 : Vec Ideal S512x3 .f32) (x1 : Vec Ideal S3x4096 .f32) (x2 : Vec Ideal S512x64 .f32) (x3 : Vec Ideal S64x4096 .f32) (x4 : Vec Ideal S512x1 .f32) (x5 : Vec Ideal S1x4096 .f32)
  (xo6 : Vec Ideal S1x1 .f32) (xo7 : Vec Ideal S1x1 .f32) (xo8 : Vec Ideal S1x1 .f32) (xo9 : Vec Ideal S1x1 .f32)

set_option maxHeartbeats 1600000 in
/-- What every later point leaves in the four accumulators: what they held plus the block. -/
theorem out_B (hc0 : ¬cond0_0 i) :
    (out0_B_6 c i arg2 harg2 arg3 harg3 arg4 harg4 arg5 harg5 arg6 harg6 arg7 harg7 arg8 harg8 arg9 harg9 arg10 harg10 arg11 harg11 hc0 x0 x1 x2 x3 x4 x5 xo6 xo7 xo8 xo9,
      out0_B_7 c i arg2 harg2 arg3 harg3 arg4 harg4 arg5 harg5 arg6 harg6 arg7 harg7 arg8 harg8 arg9 harg9 arg10 harg10 arg11 harg11 hc0 x0 x1 x2 x3 x4 x5 xo6 xo7 xo8 xo9,
      out0_B_8 c i arg2 harg2 arg3 harg3 arg4 harg4 arg5 harg5 arg6 harg6 arg7 harg7 arg8 harg8 arg9 harg9 arg10 harg10 arg11 harg11 hc0 x0 x1 x2 x3 x4 x5 xo6 xo7 xo8 xo9,
      out0_B_9 c i arg2 harg2 arg3 harg3 arg4 harg4 arg5 harg5 arg6 harg6 arg7 harg7 arg8 harg8 arg9 harg9 arg10 harg10 arg11 harg11 hc0 x0 x1 x2 x3 x4 x5 xo6 xo7 xo8 xo9)
    = (addf (xo6) (broadcast S1x1 (addPos x0 x1 x2 x3 x4 x5)),
      addf (xo7) (broadcast S1x1 (addPosCount x0 x1 x4 x5)),
      addf (xo8) (broadcast S1x1 (addNeg x0 x1 x2 x3 x4 x5)),
      addf (xo9) (broadcast S1x1 (addNegCount x0 x1 x4 x5))) := by
  unfold out0_B_6 out0_B_7 out0_B_8 out0_B_9
  rw [View.read_writes_eq_canon _ _ _ (cover0_B_6 c i arg2 harg2 arg3 harg3 arg4 harg4 arg5 harg5 arg6 harg6 arg7 harg7 arg8 harg8 arg9 harg9 arg10 harg10 arg11 harg11 hc0 x0 x1 x2 x3 x4 x5 xo6 xo7 xo8 xo9),
    View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 xo6 xo7 xo8 xo9),
    View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 xo6 xo7 xo8 xo9),
    View.read_writes_eq_canon _ _ _ (cover0_B_9 c i arg2 harg2 arg3 harg3 arg4 harg4 arg5 harg5 arg6 harg6 arg7 harg7 arg8 harg8 arg9 harg9 arg10 harg10 arg11 harg11 hc0 x0 x1 x2 x3 x4 x5 xo6 xo7 xo8 xo9)]
  refine congrArg₂ Prod.mk ?_ (congrArg₂ Prod.mk ?_ (congrArg₂ Prod.mk ?_ ?_)) <;>
  · unfold kernelRun0_B
    dsimp only
    rw [View.canon_unit_zero hz]
    sl_unfold_words
    simp only [View.readAt_eq_ld, harg2.read_unread, harg3.read_unread, harg4.read_unread, harg5.read_unread, harg6.read_unread, harg7.read_unread, harg8.read_unread, harg9.read_unread, harg10.read_unread, harg11.read_unread,
      View.ld_unit_zero (S := S512x3) hz, View.ld_unit_zero (S := S3x4096) hz, View.ld_unit_zero (S := S512x64) hz, View.ld_unit_zero (S := S64x4096) hz, View.ld_unit_zero (S := S512x1) hz, View.ld_unit_zero (S := S1x4096) hz, View.ld_unit_zero (S := S1x1) hz]
    simp only [dists]
    simp only [first]
    simp only [net (dist x0 x1)]
    simp only [second, second_hit]
    simp only [third, ← Function.iterate_add_apply]
    simp only [k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay1, k0_pay2, k0_pay3, k0_pay4, k0_pay9, k0_pay10, spread_row, cut_block, shapeCast_self]
    rfl

set_option maxHeartbeats 1600000 in
/-- What the first point leaves in the four accumulators: zero plus the block. -/
theorem out_A (hc0 : cond0_0 i) :
    (out0_A_6 c i arg2 harg2 arg3 harg3 arg4 harg4 arg5 harg5 arg6 harg6 arg7 harg7 arg8 harg8 arg9 harg9 arg10 harg10 arg11 harg11 hc0 x0 x1 x2 x3 x4 x5,
      out0_A_7 c i arg2 harg2 arg3 harg3 arg4 harg4 arg5 harg5 arg6 harg6 arg7 harg7 arg8 harg8 arg9 harg9 arg10 harg10 arg11 harg11 hc0 x0 x1 x2 x3 x4 x5,
      out0_A_8 c i arg2 harg2 arg3 harg3 arg4 harg4 arg5 harg5 arg6 harg6 arg7 harg7 arg8 harg8 arg9 harg9 arg10 harg10 arg11 harg11 hc0 x0 x1 x2 x3 x4 x5,
      out0_A_9 c i arg2 harg2 arg3 harg3 arg4 harg4 arg5 harg5 arg6 harg6 arg7 harg7 arg8 harg8 arg9 harg9 arg10 harg10 arg11 harg11 hc0 x0 x1 x2 x3 x4 x5)
    = (addf (broadcast S1x1 (FloatOps.ofBits .f32 0x00000000#32)) (broadcast S1x1 (addPos x0 x1 x2 x3 x4 x5)),
      addf (broadcast S1x1 (FloatOps.ofBits .f32 0x00000000#32)) (broadcast S1x1 (addPosCount x0 x1 x4 x5)),
      addf (broadcast S1x1 (FloatOps.ofBits .f32 0x00000000#32)) (broadcast S1x1 (addNeg x0 x1 x2 x3 x4 x5)),
      addf (broadcast S1x1 (FloatOps.ofBits .f32 0x00000000#32)) (broadcast S1x1 (addNegCount x0 x1 x4 x5))) := by
  unfold out0_A_6 out0_A_7 out0_A_8 out0_A_9
  rw [View.read_writes_eq_canon _ _ _ (cover0_A_6 c i arg2 harg2 arg3 harg3 arg4 harg4 arg5 harg5 arg6 harg6 arg7 harg7 arg8 harg8 arg9 harg9 arg10 harg10 arg11 harg11 hc0 x0 x1 x2 x3 x4 x5),
    View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5),
    View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5),
    View.read_writes_eq_canon _ _ _ (cover0_A_9 c i arg2 harg2 arg3 harg3 arg4 harg4 arg5 harg5 arg6 harg6 arg7 harg7 arg8 harg8 arg9 harg9 arg10 harg10 arg11 harg11 hc0 x0 x1 x2 x3 x4 x5)]
  refine congrArg₂ Prod.mk ?_ (congrArg₂ Prod.mk ?_ (congrArg₂ Prod.mk ?_ ?_)) <;>
  · unfold kernelRun0_A
    dsimp only
    rw [View.canon_cons_unit_zero (S := S1x1) hz]
    sl_unfold_words
    rw [View.readCov_unit_zero (S := S1x1) _ hz]
    simp only [View.readAt_eq_ld, harg2.read_unread, harg3.read_unread, harg4.read_unread, harg5.read_unread, harg6.read_unread, harg7.read_unread, harg8.read_unread, harg9.read_unread, harg10.read_unread, harg11.read_unread,
      View.ld_unit_zero (S := S512x3) hz, View.ld_unit_zero (S := S3x4096) hz, View.ld_unit_zero (S := S512x64) hz, View.ld_unit_zero (S := S64x4096) hz, View.ld_unit_zero (S := S512x1) hz, View.ld_unit_zero (S := S1x4096) hz, View.ld_unit_zero (S := S1x1) hz]
    simp only [dists]
    simp only [first]
    simp only [net (dist x0 x1)]
    simp only [second, second_hit]
    simp only [third, ← Function.iterate_add_apply]
    simp only [k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay1, k0_pay2, k0_pay3, k0_pay4, k0_pay9, k0_pay10, spread_row, cut_block, shapeCast_self]
    rfl

end Out

end Cert.KernelIdeal.Block

end
-- ==== Proof.Sums.lean ====
module

public import proofs.«01_k».proof.Proof.Block
public import Idealize.ShloMosaic.Lib.ValueLayoutCasts
public import Idealize.ShloMosaic.Lib.Pointwise.Select
public import Idealize.ShloMosaic.Lib.IdealHost

@[expose] public section

noncomputable section

open Idealize.ShloMosaic Idealize.ShloMosaic.TcCoe
open Idealize.ShloMosaic.ValueIdx (shapeCast_a_a1_apply shapeCast_ab_1ab_apply)

/-!
One grid point's values at an index: the squared distance of a query and a column, the level as the row minimum after
fifteen rounds, the masks as zero or one, and the block sums as sums over blocks, queries and lanes.
-/

namespace Cert.KernelIdeal.Block

open Cert.KernelIdeal Cert.KernelIdeal.Gen

/-- The squared distance of a query and a column of the point's blocks. -/
def far (x0 : Vec Ideal S512x3 .f32) (x1 : Vec Ideal S3x4096 .f32) (r : Fin 512) (c : Fin 4096) : EReal :=
  ∑ k : Fin 3, ((x0 (ix2 r k) : EReal) - x1 (ix2 k c)) * ((x0 (ix2 r k) : EReal) - x1 (ix2 k c))

/-- The sixteen distances of a lane, four registers per lane, for a row of distances. -/
def lanes (D : Fin 4096 → EReal) (l : Fin 256) : EReal × EReal × EReal × EReal := Cert.Knn.topFour fun j => D (col j l)

/-- The level fifteen rounds leave for a row of distances. -/
def reach (D : Fin 4096 → EReal) : EReal := Cert.Knn.rowMin (Cert.Knn.round^[15] (lanes D))

/-- The float word of infinity is the greatest extended real. -/
theorem ofBits_inf_f32 : Ideal.ofBits .f32 0x7F800000#32 = ⊤ := by
  simp [Ideal.ofBits, Ideal.ieee]

/-- A distance of a column block, at a query and a lane. -/
theorem dist_apply (x0 : Vec Ideal S512x3 .f32) (x1 : Vec Ideal S3x4096 .f32) (j : Fin 16) (r : Fin 512) (l : Fin 256) :
    dist x0 x1 j (ix2 r l) = far x0 x1 r (col j l) := by
  show Ideal.ofBits .f32 0x00000000#32 + _ + _ + _ = _
  rw [Ideal.ofBits_zero_f32, zero_add]
  unfold far
  rw [Fin.sum_univ_three]
  rfl

/-- The least over the lanes, at a query. -/
theorem least_apply (v : FVec Ideal S512x256 .f32) (r : Fin 512) (u : Fin 1) :
    least v (ix2 r u) = Finset.univ.inf fun l : Fin 256 => (v (ix2 r l) : EReal) := by
  unfold least
  refine (shapeCast_a_a1_apply _ _ r u).trans ?_
  show reduceFold reduces_S512x256_S512 (fun a b : EReal => min a b) (Ideal.ofBits .f32 0x7F800000#32) v (ix1 r) = _
  refine (reduceFold_eq_fold _ _ _ _ _).trans ?_
  rw [ofBits_inf_f32]
  exact Shape.Reduces.fold_fiber_r2_a1 reduces_S512x256_S512 (ix1 r) (fun a b : EReal => min a b) ⊤ v

/-- A query's registers. -/
def row (s : Regs) (r : Fin 512) (l : Fin 256) : EReal × EReal × EReal × EReal :=
  (s.1 (ix2 r l), s.2.1 (ix2 r l), s.2.2.1 (ix2 r l), s.2.2.2 (ix2 r l))

/-- A column of one value per query, spread over the lanes. -/
theorem spread_apply {α : Type} (t : S512x1.Idx → α) (r : Fin 512) (l : Fin 256) :
    broadcastTo S512x256 t broadcasts_S512x1_S512x256 (ix2 r l) = t (ix2 r 0) :=
  broadcastTo_apply _ _ _ _ fun ax => by
    match ax with
    | ⟨0, _⟩ => rfl
    | ⟨1, _⟩ => rfl

/-- A lane is hit when its head is the least of the row. -/
theorem hit_apply (v : FVec Ideal S512x256 .f32) (r : Fin 512) (l : Fin 256) :
    hit v (ix2 r l) = 1 ↔ (v (ix2 r l) : EReal) ≤ Finset.univ.inf fun l : Fin 256 => (v (ix2 r l) : EReal) := by
  unfold hit
  show Ideal.cmp .ole _ _ = 1 ↔ _
  rw [Ideal.cmp_ole_eq_one, spread_apply, least_apply]

/-- A round on the vectors is a round on every query's registers. -/
theorem row_step (s : Regs) (r : Fin 512) : row (step s) r = Cert.Knn.round (row s r) := by
  funext l
  unfold row step Cert.Knn.round Cert.Knn.shift Cert.Knn.rowMin
  simp only [select, Scalar.select, broadcast, hit_apply]
  split
  · rw [Ideal.ofBits_def, ofBits_inf_f32]
  · rfl

/-- Several rounds on the vectors, query by query. -/
theorem row_steps (s : Regs) (r : Fin 512) (n : ℕ) : row (step^[n] s) r = Cert.Knn.round^[n] (row s r) := by
  induction n with
  | zero => rfl
  | succ n ih => rw [Function.iterate_succ_apply', Function.iterate_succ_apply', row_step, ih]

/-- The level of a query, from its row of distances. -/
theorem level_apply (x0 : Vec Ideal S512x3 .f32) (x1 : Vec Ideal S3x4096 .f32) (r : Fin 512) (u : Fin 1) :
    least (step^[15] (sorted (dist x0 x1))).1 (ix2 r u) = reach (far x0 x1 r) := by
  rw [least_apply]
  have e : row (sorted (dist x0 x1)) r = lanes (far x0 x1 r) := by
    funext l
    unfold row sorted lanes
    simp only [dist_apply]
  unfold reach
  rw [← e, ← row_steps]
  generalize step^[15] (sorted (dist x0 x1)) = s
  rfl

/-- Whether a distance is within the row's level, as zero or one. -/
def inside (D : Fin 4096 → EReal) (c : Fin 4096) : EReal := if D c ≤ reach D then 1 else 0

/-- The mask of a column block: one where the column is at or below the level. -/
theorem near_apply (x0 : Vec Ideal S512x3 .f32) (x1 : Vec Ideal S3x4096 .f32) (j : Fin 16) (r : Fin 512) (l : Fin 256) :
    near (dist x0 x1) (least (step^[15] (sorted (dist x0 x1))).1) j (ix2 r l) = inside (far x0 x1 r) (col j l) := by
  unfold near inside
  show (if Ideal.cmp .ole _ _ = 1 then Ideal.ofBits .f32 0x3F800000#32 else Ideal.ofBits .f32 0x00000000#32) = _
  simp only [Ideal.cmp_ole_eq_one, spread_apply, level_apply, dist_apply, Ideal.ofBits_one_f32, Ideal.ofBits_zero_f32]

/-- The positive mask of a column block: the mask where the labels agree. -/
theorem same_apply (x0 : Vec Ideal S512x3 .f32) (x1 : Vec Ideal S3x4096 .f32) (x4 : Vec Ideal S512x1 .f32) (x5 : Vec Ideal S1x4096 .f32)
    (j : Fin 16) (r : Fin 512) (l : Fin 256) :
    same (dist x0 x1) (least (step^[15] (sorted (dist x0 x1))).1) x4 x5 j (ix2 r l)
      = if (x4 (ix2 r 0) : EReal) = x5 (ix2 0 (col j l)) then inside (far x0 x1 r) (col j l) else 0 := by
  unfold same
  show (if Ideal.cmp .oeq _ _ = 1 then near _ _ j (ix2 r l) else Ideal.ofBits .f32 0x00000000#32) = _
  simp only [Ideal.cmp_oeq_eq_one, spread_apply, near_apply, Ideal.ofBits_zero_f32]
  rfl

/-- The sum of a vector over the queries and lanes. -/
theorem whole_eq (v : FVec Ideal S512x256 .f32) : whole v = ∑ r : Fin 512, ∑ l : Fin 256, (v (ix2 r l) : EReal) := by
  unfold whole
  have hi : (fun a => ⟨(![0, 0, 0] : Fin 3 → Nat) a, inpos_S1x1x1_p0_0_0 a⟩ : S1x1x1.Idx) = ix3 0 0 0 := by
    funext a
    match a with
    | ⟨0, _⟩ => rfl
    | ⟨1, _⟩ => rfl
    | ⟨2, _⟩ => rfl
  unfold extractAt
  rw [hi]
  refine (shapeCast_apply _ _ (ix3 0 0 0) (ix1 (0 : Fin 1)) (by rfl)).trans ?_
  show Ideal.reduceAdd reduces_S1x512x256_S1 _ (ix1 0) = _
  rw [Ideal.reduceAdd_r3_a12]
  refine Finset.sum_congr rfl fun r _ => Finset.sum_congr rfl fun l _ => ?_
  exact shapeCast_ab_1ab_apply v _ _ r l

/-- The sums of the sixteen column blocks together. -/
theorem total_eq (f : Fin 16 → FVec Ideal S512x256 .f32) :
    total f = ∑ j : Fin 16, ∑ r : Fin 512, ∑ l : Fin 256, (f j (ix2 r l) : EReal) := by
  have e : total f = ∑ j : Fin 16, (whole (f j) : EReal) := by
    unfold total
    show (Ideal.ofBits .f32 0x00000000#32 : EReal) + _ + _ + _ + _ + _ + _ + _ + _ + _ + _ + _ + _ + _ + _ + _ + _ = _
    rw [Ideal.ofBits_zero_f32, zero_add]
    simp only [Fin.sum_univ_succ, Fin.sum_univ_zero, add_zero]
    simp only [← add_assoc]
    rfl
  rw [e]
  exact Finset.sum_congr rfl fun j _ => whole_eq (f j)

end Cert.KernelIdeal.Block

end
-- ==== Proof.Cosine.lean ====
module

public import proofs.«01_k».proof.Proof.BlockOut
public import proofs.«01_k».proof.Proof.Sums
public import Idealize.ShloMosaic.Lib.MatmulPlain
public import Idealize.ShloMosaic.Lib.Pointwise.Sums

@[expose] public section

noncomputable section

open Idealize.ShloMosaic Idealize.ShloMosaic.TcCoe
open Idealize.ShloMosaic.ValueIdx (shapeCast_a_a1_apply shapeCast_a_1a_apply)

/-!
One grid point's cosine similarities at an index, and the four block sums as sums over blocks, queries and lanes.
-/

namespace Cert.KernelIdeal.Block

open Cert.KernelIdeal Cert.KernelIdeal.Gen

/-- The norm of a feature vector, kept away from zero. -/
def bound (x : Fin 64 → EReal) : EReal := max (Ideal.sqrt (∑ k : Fin 64, x k * x k)) (Ideal.ofBits .f32 0x2B8CBCCC#32)

/-- The cosine similarity of two feature vectors, as the dot product times the inverse norms. -/
def cos (x y : Fin 64 → EReal) : EReal := (∑ k : Fin 64, x k * y k) * Ideal.div 1 (bound x) * Ideal.div 1 (bound y)

/-- The inverse norms of the query rows. -/
theorem norm_row (x2 : Vec Ideal S512x64 .f32) (r : Fin 512) (u : Fin 1) :
    (maximumf (k0_pay40 x2) k0_pay41 (ix2 r u) : EReal) = bound fun k => x2 (ix2 r k) := by
  refine congrArg (fun z : EReal => max (Ideal.sqrt z) (Ideal.ofBits .f32 0x2B8CBCCC#32)) ((shapeCast_a_a1_apply _ _ r u).trans ?_)
  exact Ideal.reduceAdd_r2_a1 reduces_S512x64_S512 _ (ix1 r)

/-- The inverse norms of the columns. -/
theorem norm_col (x3 : Vec Ideal S64x4096 .f32) (c : Fin 4096) :
    (k0_pay8 x3 (ix2 (0 : Fin 1) c) : EReal) = Ideal.div 1 (bound fun k => x3 (ix2 k c)) := by
  unfold k0_pay8 k0_pay6
  dsimp only
  rw [shapeCast_self]
  refine congrArg₂ (fun o z : EReal => Ideal.div o (max (Ideal.sqrt z) (Ideal.ofBits .f32 0x2B8CBCCC#32))) Ideal.ofBits_one_f32
    ((shapeCast_a_1a_apply _ _ 0 c).trans ?_)
  exact Ideal.reduceAdd_r2_a0 reduces_S64x4096_S4096 _ (ix1 c)

/-- The similarity of a query and a column is the scaled product of their rows. -/
theorem cosine_apply (x2 : Vec Ideal S512x64 .f32) (x3 : Vec Ideal S64x4096 .f32) (r : Fin 512) (c : Fin 4096) :
    (cosine x2 x3 (ix2 r c) : EReal) = cos (fun k => x2 (ix2 r k)) (fun k => x3 (ix2 k c)) := by
  unfold cosine cos k0_pay42
  dsimp only
  show (FloatOps.matmul (F := Ideal) (φ₁ := .bf16) (φ₂ := .bf16) (DotDims.plain 512 64 4096) none (truncf .bf16 x2 bitsLt_bf16_f32) (k0_pay7 x3) (constant S512x4096 .f32 0x00000000#32) (ix2 r c) : EReal) * broadcastTo S512x4096 _ _ (ix2 r c) * broadcastTo S512x4096 _ _ (ix2 r c) = _
  refine congrArg₂ (fun a b : EReal => a * b) (congrArg₂ (fun a b : EReal => a * b) ?_ ?_) ?_
  · refine (Ideal.matmul_plain_apply none (truncf .bf16 x2 bitsLt_bf16_f32) (k0_pay7 x3) (constant S512x4096 .f32 0x00000000#32) r c).trans ?_
    show (Ideal.ofBits .f32 0x00000000#32 : EReal) + _ = _
    rw [Ideal.ofBits_zero_f32, zero_add]
    refine Finset.sum_congr rfl fun k _ => ?_
    unfold k0_pay7 k0_pay6
    dsimp only
    rw [shapeCast_self]
    rfl
  · refine (broadcastTo_apply _ broadcasts_S512x1_S512x4096 (ix2 r c) (ix2 r (0 : Fin 1)) (fun ax => by
      match ax with
      | ⟨0, _⟩ => rfl
      | ⟨1, _⟩ => rfl)).trans ?_
    exact congrArg₂ Ideal.div Ideal.ofBits_one_f32 (norm_row x2 r 0)
  · refine (broadcastTo_apply _ broadcasts_S1x4096_S512x4096 (ix2 r c) (ix2 (0 : Fin 1) c) (fun ax => by
      match ax with
      | ⟨0, _⟩ => rfl
      | ⟨1, _⟩ => rfl)).trans ?_
    exact norm_col x3 c

/-- The hinge of a similarity. -/
def push (x : EReal) : EReal := max (x - Ideal.ofBits .f32 0x3F000000#32) 0

section Adds
variable (x0 : Vec Ideal S512x3 .f32) (x1 : Vec Ideal S3x4096 .f32) (x2 : Vec Ideal S512x64 .f32) (x3 : Vec Ideal S64x4096 .f32)
  (x4 : Vec Ideal S512x1 .f32) (x5 : Vec Ideal S1x4096 .f32)

/-- The mask of a pair: the column is among the query's nearest. -/
def mask (r : Fin 512) (c : Fin 4096) : EReal := inside (far x0 x1 r) c

/-- The mask of a positive pair: among the nearest and of the query's label. -/
def pos (r : Fin 512) (c : Fin 4096) : EReal := if (x4 (ix2 r 0) : EReal) = x5 (ix2 0 c) then mask x0 x1 r c else 0

/-- The similarity of a pair. -/
def sim (r : Fin 512) (c : Fin 4096) : EReal := cos (fun k => x2 (ix2 r k)) (fun k => x3 (ix2 k c))

/-- A sum over blocks, queries and lanes as a sum over queries and columns. -/
theorem sum_col (f : Fin 512 → Fin 4096 → EReal) :
    (∑ j : Fin 16, ∑ r : Fin 512, ∑ l : Fin 256, f r (col j l)) = ∑ r : Fin 512, ∑ c : Fin 4096, f r c := by
  rw [Finset.sum_comm]
  refine Finset.sum_congr rfl fun r _ => ?_
  exact (Fin.sum_univ_tiles 16 256 (by decide) (f r)).symm

/-- The positive count of a block, over queries and columns. -/
theorem addPosCount_eq : addPosCount x0 x1 x4 x5 = ∑ r : Fin 512, ∑ c : Fin 4096, pos x0 x1 x4 x5 r c := by
  unfold addPosCount
  rw [total_eq, ← sum_col]
  refine Finset.sum_congr rfl fun j _ => Finset.sum_congr rfl fun r _ => Finset.sum_congr rfl fun l _ => ?_
  exact same_apply x0 x1 x4 x5 j r l

/-- The positive sum of a block: the count less the similarities. -/
theorem addPos_eq : addPos x0 x1 x2 x3 x4 x5
    = (∑ r : Fin 512, ∑ c : Fin 4096, pos x0 x1 x4 x5 r c) - ∑ r : Fin 512, ∑ c : Fin 4096, sim x2 x3 r c * pos x0 x1 x4 x5 r c := by
  unfold addPos
  refine congrArg₂ (fun a b : EReal => a - b) (addPosCount_eq x0 x1 x4 x5) ?_
  rw [total_eq, ← sum_col]
  refine Finset.sum_congr rfl fun j _ => Finset.sum_congr rfl fun r _ => Finset.sum_congr rfl fun l _ => ?_
  exact congrArg₂ (fun a b : EReal => a * b) (cosine_apply x2 x3 r (col j l)) (same_apply x0 x1 x4 x5 j r l)

/-- The hinge sum of a block, over queries and columns. -/
theorem addNeg_eq : addNeg x0 x1 x2 x3 x4 x5
    = ∑ r : Fin 512, ∑ c : Fin 4096, push (sim x2 x3 r c) * (mask x0 x1 r c - pos x0 x1 x4 x5 r c) := by
  unfold addNeg
  rw [total_eq, ← sum_col]
  refine Finset.sum_congr rfl fun j _ => Finset.sum_congr rfl fun r _ => Finset.sum_congr rfl fun l _ => ?_
  refine congrArg₂ (fun a b : EReal => a * b) ?_
    (congrArg₂ (fun a b : EReal => a - b) (near_apply x0 x1 j r l) (same_apply x0 x1 x4 x5 j r l))
  exact congrArg₂ (fun a b : EReal => max (a - Ideal.ofBits .f32 0x3F000000#32) b) (cosine_apply x2 x3 r (col j l)) Ideal.ofBits_zero_f32

/-- The negative count of a block: the masked columns less the positive ones. -/
theorem addNegCount_eq : addNegCount x0 x1 x4 x5
    = (∑ r : Fin 512, ∑ c : Fin 4096, mask x0 x1 r c) - ∑ r : Fin 512, ∑ c : Fin 4096, pos x0 x1 x4 x5 r c := by
  unfold addNegCount
  refine congrArg₂ (fun a b : EReal => a - b) ?_ (addPosCount_eq x0 x1 x4 x5)
  rw [total_eq, ← sum_col]
  refine Finset.sum_congr rfl fun j _ => Finset.sum_congr rfl fun r _ => Finset.sum_congr rfl fun l _ => ?_
  exact near_apply x0 x1 j r l

end Adds

end Cert.KernelIdeal.Block

end
-- ==== Proof.Acc.lean ====
module

public import proofs.«01_k».proof.Proof.Cosine
public import Idealize.ShloMosaic.Lib.StableHlo.Run

@[expose] public section

noncomputable section

open Idealize.ShloMosaic Idealize.ShloMosaic.TcCoe Idealize.SL.Sem
open Idealize.ShloMosaic.Pipeline (Dat)

/-!
The four accumulators over the grid: after each point each holds the sum of the points' blocks so far, and the four result
arrays end at the sums over all 64 points.
-/

namespace Cert.KernelIdeal.Acc

open Cert.KernelIdeal Cert.KernelIdeal.Gen Cert.KernelIdeal.Block

variable (m : (ℓ : Loc nD τ sig) → Buf (Elt Ideal) ℓ) (ρ : Dev nD → PrngReg)

/-- What a point adds to an accumulator, by the accumulator. -/
def add6 (c : Dev nD) (t : Fin cfg0.N) : EReal :=
  addPos (iblk m c 0 t) (iblk m c 1 t) (iblk m c 2 t) (iblk m c 3 t) (iblk m c 4 t) (iblk m c 5 t)
@[inherit_doc add6] def add7 (c : Dev nD) (t : Fin cfg0.N) : EReal :=
  addPosCount (iblk m c 0 t) (iblk m c 1 t) (iblk m c 4 t) (iblk m c 5 t)
@[inherit_doc add6] def add8 (c : Dev nD) (t : Fin cfg0.N) : EReal :=
  addNeg (iblk m c 0 t) (iblk m c 1 t) (iblk m c 2 t) (iblk m c 3 t) (iblk m c 4 t) (iblk m c 5 t)
@[inherit_doc add6] def add9 (c : Dev nD) (t : Fin cfg0.N) : EReal :=
  addNegCount (iblk m c 0 t) (iblk m c 1 t) (iblk m c 4 t) (iblk m c 5 t)

/-- The sum of the points up to `n`. -/
def upTo {N : ℕ} (f : Fin N → EReal) (n : ℕ) : EReal := ∑ t : Fin N, if t.val ≤ n then f t else 0

/-- The sum up to the first point is its term. -/
theorem upTo_zero {N : ℕ} (f : Fin N → EReal) (h : 0 < N) : upTo f 0 = 0 + f ⟨0, h⟩ := by
  unfold upTo
  rw [zero_add, Finset.sum_eq_single ⟨0, h⟩]
  · simp
  · intro b _ hb
    have : b.val ≠ 0 := fun e => hb (Fin.ext e)
    simp [this]
  · simp

/-- The sum up to the next point has one term more. -/
theorem upTo_succ {N : ℕ} (f : Fin N → EReal) (n : ℕ) (h : n + 1 < N) : upTo f (n + 1) = upTo f n + f ⟨n + 1, h⟩ := by
  unfold upTo
  have e : f ⟨n + 1, h⟩ = ∑ t : Fin N, if t = ⟨n + 1, h⟩ then f t else 0 := by simp
  rw [e, ← Finset.sum_add_distrib]
  refine Finset.sum_congr rfl fun t _ => ?_
  by_cases h1 : t.val ≤ n
  · have h2 : t ≠ ⟨n + 1, h⟩ := fun e => by have := congrArg Fin.val e; simp at this; omega
    simp [h1, h2, Nat.le_succ_of_le h1]
  · by_cases h2 : t = ⟨n + 1, h⟩
    · subst h2; simp
    · have h3 : ¬ t.val ≤ n + 1 := fun h3 => h2 (Fin.ext (by simp; omega))
      simp [h1, h2, h3]

/-- The sum up to the last point is the sum of all. -/
theorem upTo_last (f : Fin 64 → EReal) : upTo f 63 = ∑ t, f t := by
  unfold upTo
  exact Finset.sum_congr rfl fun t _ => if_pos (by omega)

/-- A one-element block holding a value. -/
def cell (x : EReal) : Vec Ideal S1x1 .f32 := fun _ => x

/-- The first point: zero plus its term. -/
theorem cell_zero (x : EReal) : addf (broadcast S1x1 (FloatOps.ofBits (F := Ideal) .f32 0x00000000#32)) (broadcast S1x1 x) = cell (0 + x) :=
  funext fun _ => congrArg (fun z : EReal => z + x) Ideal.ofBits_zero_f32

/-- A later point: the value held plus its term. -/
theorem cell_add (x y : EReal) : addf (F := Ideal) (φ := .f32) (cell x) (broadcast S1x1 y) = cell (x + y) := rfl

/-- What the four accumulators hold after point `n`. -/
theorem outsAt_eq (c : Dev nD) : ∀ (n : ℕ) (h : n < cfg0.N),
    outsAt0 m c n h = (cell (upTo (add6 m c) n), cell (upTo (add7 m c) n), cell (upTo (add8 m c) n), cell (upTo (add9 m c) n))
  | 0, h => by
    refine (outsAt0_A m c ⟨0, h⟩ rfl).trans ?_
    rw [out_A]
    simp only [upTo_zero _ h]
    exact Prod.ext (cell_zero _) (Prod.ext (cell_zero _) (Prod.ext (cell_zero _) (cell_zero _)))
  | n + 1, h => by
    have hN : cfg0.N = 64 := N_0
    have hB : ¬(⟨n + 1, h⟩ : Fin cfg0.N).val % 64 = 0 := by dsimp only; omega
    refine (outsAt0_B m c ⟨n + 1, h⟩ hB).trans ?_
    rw [out_B]
    simp only [Nat.add_sub_cancel, outsAt_eq c n, upTo_succ _ n h]
    exact Prod.ext (cell_add _ _) (Prod.ext (cell_add _ _) (Prod.ext (cell_add _ _) (cell_add _ _)))

/-- The last point. -/
def last : Fin cfg0.N := ⟨63, by rw [show cfg0.N = 64 from N_0]; decide⟩

/-- The accumulators are written back at the last point only. -/
theorem eq_last (t : Fin cfg0.N) (h : t.val % 64 = 63) : t = last := by
  have hN : cfg0.N = 64 := N_0
  have := t.isLt
  exact Fin.ext (by show t.val = 63; omega)

/-- A one-element block has one index. -/
theorem one_idx (i j : S1x1.Idx) : i = j := by
  funext a
  match a with
  | ⟨0, _⟩ => exact Subsingleton.elim (α := Fin 1) _ _
  | ⟨1, _⟩ => exact Subsingleton.elim (α := Fin 1) _ _

/-- The result array of the positive sums ends at the sum over all points. -/
theorem final_6 (c : Dev nD) : (dats m 0 c).arrAt 6 cfg0.N = cell (upTo (add6 m c) 63) := by
  refine (dats m 0 c).arrAt_eq_of_cover 6 (cell (upTo (add6 m c) 63)) (fun t hf => ?_) fun i =>
    ⟨last, (flush0_6 last).mpr rfl, Finset.mem_map.mpr ⟨(ix2 0 0 : S1x1.Idx), Finset.mem_univ _, one_idx _ i⟩⟩
  obtain rfl := eq_last t ((flush0_6 t).mp hf)
  show (cfg0.win 6).cut (grid0.coords last) ((dats m 0 c).after 6 last) = _
  rw [after0_6, outsAt_eq]
  rfl

/-- The result array of the positive counts ends at the sum over all points. -/
theorem final_7 (c : Dev nD) : (dats m 0 c).arrAt 7 cfg0.N = cell (upTo (add7 m c) 63) := by
  refine (dats m 0 c).arrAt_eq_of_cover 7 (cell (upTo (add7 m c) 63)) (fun t hf => ?_) fun i =>
    ⟨last, (flush0_7 last).mpr rfl, Finset.mem_map.mpr ⟨(ix2 0 0 : S1x1.Idx), Finset.mem_univ _, one_idx _ i⟩⟩
  obtain rfl := eq_last t ((flush0_7 t).mp hf)
  show (cfg0.win 7).cut (grid0.coords last) ((dats m 0 c).after 7 last) = _
  rw [after0_7, outsAt_eq]
  rfl

/-- The result array of the hinge sums ends at the sum over all points. -/
theorem final_8 (c : Dev nD) : (dats m 0 c).arrAt 8 cfg0.N = cell (upTo (add8 m c) 63) := by
  refine (dats m 0 c).arrAt_eq_of_cover 8 (cell (upTo (add8 m c) 63)) (fun t hf => ?_) fun i =>
    ⟨last, (flush0_8 last).mpr rfl, Finset.mem_map.mpr ⟨(ix2 0 0 : S1x1.Idx), Finset.mem_univ _, one_idx _ i⟩⟩
  obtain rfl := eq_last t ((flush0_8 t).mp hf)
  show (cfg0.win 8).cut (grid0.coords last) ((dats m 0 c).after 8 last) = _
  rw [after0_8, outsAt_eq]
  rfl

/-- The result array of the negative counts ends at the sum over all points. -/
theorem final_9 (c : Dev nD) : (dats m 0 c).arrAt 9 cfg0.N = cell (upTo (add9 m c) 63) := by
  refine (dats m 0 c).arrAt_eq_of_cover 9 (cell (upTo (add9 m c) 63)) (fun t hf => ?_) fun i =>
    ⟨last, (flush0_9 last).mpr rfl, Finset.mem_map.mpr ⟨(ix2 0 0 : S1x1.Idx), Finset.mem_univ _, one_idx _ i⟩⟩
  obtain rfl := eq_last t ((flush0_9 t).mp hf)
  show (cfg0.win 9).cut (grid0.coords last) ((dats m 0 c).after 9 last) = _
  rw [after0_9, outsAt_eq]
  rfl

end Cert.KernelIdeal.Acc

end
-- ==== Proof.Entry.lean ====
module

public import proofs.«01_k».proof.Proof.Acc
public import Idealize.ShloMosaic.Lib.StableHlo.Run
public import Idealize.ShloMosaic.Lib.Pipeline.Value
public import Idealize.ShloMosaic.Lib.ValueLayout
public import Idealize.ShloMosaic.Lib.ValueLayoutCasts
public import Idealize.ShloMosaic.Lib.Tactic

@[expose] public section

noncomputable section

open Idealize.ShloMosaic Idealize.ShloMosaic.TcCoe Idealize.SL.Sem
open Idealize.ShloMosaic.ValueIdx (shapeCast_a_a1_apply shapeCast_a_1a_apply)

/-!
The windows' blocks read off the program's arguments: at point `t` the query rows are rows `512 t …` and the columns are the
4096 rows of segment `t / 8`.
-/

namespace Cert.KernelIdeal.Entry

open Cert.KernelIdeal Cert.KernelIdeal.Gen

variable (m : (ℓ : Loc nD τ sig) → Buf (Elt Ideal) ℓ)

/-- The arguments as launched. -/
def feats (c : Dev nD) : FVec Ideal S32768x64 .f32 := m ((c : Thread nD τ).loc main_arg0)
@[inherit_doc feats] def coords (c : Dev nD) : FVec Ideal S32768x3 .f32 := m ((c : Thread nD τ).loc main_arg1)
@[inherit_doc feats] def labels (c : Dev nD) : IVec S32768 32 := m ((c : Thread nD τ).loc main_arg3)

/-- The transposed coordinates, as the region finds them. -/
theorem V_v3 (c : Dev nD) : V m c main_v3 = transpose S3x32768 [1, 0] (coords m c) transposes_S32768x3_S3x32768_1_0 := by
  simp only [V, V0, hostOps0, List.flatten_cons, List.flatten_nil, List.append_nil]; after_results; rfl

/-- The transposed features, as the region finds them. -/
theorem V_v4 (c : Dev nD) : V m c main_v4 = transpose S64x32768 [1, 0] (feats m c) transposes_S32768x64_S64x32768_1_0 := by
  simp only [V, V0, hostOps0, List.flatten_cons, List.flatten_nil, List.append_nil]; after_results; rfl

/-- The labels as a column of numbers, as the region finds them. -/
theorem V_v1 (c : Dev nD) : V m c main_v1 = shapeCast S32768x1 (sitofp (F := Ideal) .f32 (labels m c)) shapeCasts_S32768_S32768x1 := by
  simp only [V, V0, hostOps0, List.flatten_cons, List.flatten_nil, List.append_nil]; after_results; rfl

/-- The labels as a row of numbers, as the region finds them. -/
theorem V_v2 (c : Dev nD) : V m c main_v2 = shapeCast S1x32768 (sitofp (F := Ideal) .f32 (labels m c)) shapeCasts_S32768_S1x32768 := by
  simp only [V, V0, hostOps0, List.flatten_cons, List.flatten_nil, List.append_nil]; after_results; rfl

/-- Query row `r` of point `t`. -/
def qrow (t : Fin 64) (r : Fin 512) : Fin 32768 := ⟨t.val * 512 + r.val, by omega⟩

/-- Column `x` of point `t`. -/
def crow (t : Fin 64) (x : Fin 4096) : Fin 32768 := ⟨t.val / 8 * 4096 + x.val, by omega⟩

/-- Which block of the query coordinates a point reads. -/
theorem index_0 : ∀ t : Fin grid0.N, win0_0.index t 0 = t.val ∧ win0_0.index t 1 = 0 := by decide +kernel
/-- Which block of the column coordinates a point reads. -/
theorem index_1 : ∀ t : Fin grid0.N, win0_1.index t 0 = 0 ∧ win0_1.index t 1 = t.val / 8 := by decide +kernel
/-- Which block of the query features a point reads. -/
theorem index_2 : ∀ t : Fin grid0.N, win0_2.index t 0 = t.val ∧ win0_2.index t 1 = 0 := by decide +kernel
/-- Which block of the column features a point reads. -/
theorem index_3 : ∀ t : Fin grid0.N, win0_3.index t 0 = 0 ∧ win0_3.index t 1 = t.val / 8 := by decide +kernel
/-- Which block of the query labels a point reads. -/
theorem index_4 : ∀ t : Fin grid0.N, win0_4.index t 0 = t.val ∧ win0_4.index t 1 = 0 := by decide +kernel
/-- Which block of the column labels a point reads. -/
theorem index_5 : ∀ t : Fin grid0.N, win0_5.index t 0 = 0 ∧ win0_5.index t 1 = t.val / 8 := by decide +kernel

/-- A point's query coordinates. -/
theorem iblk_0 (c : Dev nD) (t : Fin cfg0.N) (r : Fin 512) (k : Fin 3) :
    (iblk m c 0 t : Vec Ideal S512x3 .f32) (ix2 r k) = coords m c (ix2 (qrow (t.cast N_0) r) k) := by
  unfold iblk
  rw [View.read_apply]
  show V m c main_arg1 _ = _
  rw [V_main_arg1]
  refine congrArg (coords m c) (funext fun a => Fin.ext ?_)
  match a with
  | ⟨0, _⟩ => show win0_0.index t 0 * 512 + 1 * r.val = t.val * 512 + r.val; rw [(index_0 t).1]; omega
  | ⟨1, _⟩ => show win0_0.index t 1 * 3 + 1 * k.val = k.val; rw [(index_0 t).2]; omega

/-- A point's column coordinates. -/
theorem iblk_1 (c : Dev nD) (t : Fin cfg0.N) (k : Fin 3) (x : Fin 4096) :
    (iblk m c 1 t : Vec Ideal S3x4096 .f32) (ix2 k x) = coords m c (ix2 (crow (t.cast N_0) x) k) := by
  unfold iblk
  rw [View.read_apply]
  show V m c main_v3 _ = _
  rw [V_v3]
  refine congrArg (coords m c) (funext fun a => Fin.ext ?_)
  match a with
  | ⟨0, _⟩ => show win0_1.index t 1 * 4096 + 1 * x.val = t.val / 8 * 4096 + x.val; rw [(index_1 t).2]; omega
  | ⟨1, _⟩ => show win0_1.index t 0 * 3 + 1 * k.val = k.val; rw [(index_1 t).1]; omega

/-- A point's query features. -/
theorem iblk_2 (c : Dev nD) (t : Fin cfg0.N) (r : Fin 512) (k : Fin 64) :
    (iblk m c 2 t : Vec Ideal S512x64 .f32) (ix2 r k) = feats m c (ix2 (qrow (t.cast N_0) r) k) := by
  unfold iblk
  rw [View.read_apply]
  show V m c main_arg0 _ = _
  rw [V_main_arg0]
  refine congrArg (feats m c) (funext fun a => Fin.ext ?_)
  match a with
  | ⟨0, _⟩ => show win0_2.index t 0 * 512 + 1 * r.val = t.val * 512 + r.val; rw [(index_2 t).1]; omega
  | ⟨1, _⟩ => show win0_2.index t 1 * 64 + 1 * k.val = k.val; rw [(index_2 t).2]; omega

/-- A point's column features. -/
theorem iblk_3 (c : Dev nD) (t : Fin cfg0.N) (k : Fin 64) (x : Fin 4096) :
    (iblk m c 3 t : Vec Ideal S64x4096 .f32) (ix2 k x) = feats m c (ix2 (crow (t.cast N_0) x) k) := by
  unfold iblk
  rw [View.read_apply]
  show V m c main_v4 _ = _
  rw [V_v4]
  refine congrArg (feats m c) (funext fun a => Fin.ext ?_)
  match a with
  | ⟨0, _⟩ => show win0_3.index t 1 * 4096 + 1 * x.val = t.val / 8 * 4096 + x.val; rw [(index_3 t).2]; omega
  | ⟨1, _⟩ => show win0_3.index t 0 * 64 + 1 * k.val = k.val; rw [(index_3 t).1]; omega

/-- A point's query labels, as numbers. -/
theorem iblk_4 (c : Dev nD) (t : Fin cfg0.N) (r : Fin 512) :
    (iblk m c 4 t : Vec Ideal S512x1 .f32) (ix2 r 0) = (((labels m c (ix1 (qrow (t.cast N_0) r))).toInt : ℝ) : EReal) := by
  unfold iblk
  rw [View.read_apply]
  show V m c main_v1 _ = _
  rw [V_v1]
  refine (congrArg (shapeCast S32768x1 (sitofp (F := Ideal) .f32 (labels m c)) shapeCasts_S32768_S32768x1) (?_ : _ = ix2 (qrow (t.cast N_0) r) 0)).trans
    (shapeCast_a_a1_apply _ _ (qrow (t.cast N_0) r) 0)
  refine funext fun a => Fin.ext ?_
  match a with
  | ⟨0, _⟩ => show win0_4.index t 0 * 512 + 1 * r.val = t.val * 512 + r.val; rw [(index_4 t).1]; omega
  | ⟨1, _⟩ => show win0_4.index t 1 * 1 + 1 * 0 = 0; rw [(index_4 t).2]

/-- A point's column labels, as numbers. -/
theorem iblk_5 (c : Dev nD) (t : Fin cfg0.N) (x : Fin 4096) :
    (iblk m c 5 t : Vec Ideal S1x4096 .f32) (ix2 0 x) = (((labels m c (ix1 (crow (t.cast N_0) x))).toInt : ℝ) : EReal) := by
  unfold iblk
  rw [View.read_apply]
  show V m c main_v2 _ = _
  rw [V_v2]
  refine (congrArg (shapeCast S1x32768 (sitofp (F := Ideal) .f32 (labels m c)) shapeCasts_S32768_S1x32768) (?_ : _ = ix2 0 (crow (t.cast N_0) x))).trans
    (shapeCast_a_1a_apply _ _ 0 (crow (t.cast N_0) x))
  refine funext fun a => Fin.ext ?_
  match a with
  | ⟨0, _⟩ => show win0_5.index t 0 * 1 + 1 * 0 = 0; rw [(index_5 t).1]
  | ⟨1, _⟩ => show win0_5.index t 1 * 4096 + 1 * x.val = t.val / 8 * 4096 + x.val; rw [(index_5 t).2]; omega

end Cert.KernelIdeal.Entry

end
-- ==== Proof.Similar.lean ====
module

public import proofs.«01_k».proof.Proof.Cosine

@[expose] public section

noncomputable section

open Idealize.ShloMosaic Idealize.ShloMosaic.TcCoe

/-!
The cosine similarity is a real number, and scaling each vector by its norm before the product gives the same: an infinite
component makes the norm infinite and every quotient zero, and over the reals the factors move out of the sum.
-/

namespace Cert.KernelIdeal.Block

/-- The least norm the programs divide by, as a real number. -/
theorem eps_pos : ∃ e : ℝ, 0 < e ∧ Ideal.ofBits .f32 0x2B8CBCCC#32 = (e : EReal) := by
  refine ⟨(2 ^ 23 + 834764 : ℕ) * (2 : ℝ) ^ ((87 : Int) - 127 - 23), by positivity, ?_⟩
  simp [Ideal.ofBits, Ideal.ieee]

/-- A square of an extended real is not negative. -/
theorem sq_nonneg' (x : EReal) : 0 ≤ x * x := by
  induction x with
  | bot => simp
  | top => simp
  | coe r => exact_mod_cast mul_self_nonneg r

/-- A norm is infinite, or it is a positive real and the vector is real. -/
theorem bound_cases (x : Fin 64 → EReal) :
    bound x = ⊤ ∨ ∃ (b : ℝ) (f : Fin 64 → ℝ), 0 < b ∧ bound x = (b : EReal) ∧ ∀ k, x k = (f k : EReal) := by
  obtain ⟨e, he, hb⟩ := eps_pos
  unfold bound
  rw [hb]
  by_cases h : ∃ k, x k = ⊤ ∨ x k = ⊥
  · left
    obtain ⟨k, hk⟩ := h
    have h1 : x k * x k = ⊤ := by rcases hk with hk | hk <;> rw [hk] <;> simp
    have h2 : (∑ k : Fin 64, x k * x k) = ⊤ := by
      refine top_le_iff.mp ?_
      rw [← h1]
      exact Finset.single_le_sum (f := fun k => x k * x k) (fun i _ => sq_nonneg' (x i)) (Finset.mem_univ k)
    rw [h2]
    exact top_le_iff.mp (le_max_left _ _)
  · right
    have h1 : ∀ k, ∃ r : ℝ, x k = (r : EReal) := fun k => by
      have hk : ¬(x k = ⊤ ∨ x k = ⊥) := fun hk => h ⟨k, hk⟩
      exact ⟨(x k).toReal, (EReal.coe_toReal (fun h => hk (Or.inl h)) (fun h => hk (Or.inr h))).symm⟩
    choose f hf using h1
    have h2 : (∑ k : Fin 64, x k * x k) = ((∑ k : Fin 64, f k * f k : ℝ) : EReal) := by
      simp only [hf]
      push_cast
      rfl
    have h3 : 0 ≤ ∑ k : Fin 64, f k * f k := Finset.sum_nonneg fun k _ => mul_self_nonneg (f k)
    refine ⟨max (Real.sqrt (∑ k : Fin 64, f k * f k)) e, f, lt_max_of_lt_right he, ?_, hf⟩
    rw [h2]
    have h4 : Ideal.sqrt ((∑ k : Fin 64, f k * f k : ℝ) : EReal) = (Real.sqrt (∑ k : Fin 64, f k * f k) : EReal) := by
      show (if _ < 0 then (⊥ : EReal) else _) = _
      exact if_neg (not_lt.mpr h3)
    rw [h4]
    exact (EReal.coe_strictMono.monotone.map_max).symm

/-- Dividing by infinity gives zero. -/
theorem div_top (x : EReal) : Ideal.div x ⊤ = 0 := by
  unfold Ideal.div
  simp

/-- Dividing reals by a positive real is real division. -/
theorem div_coe (x b : ℝ) (h : 0 < b) : Ideal.div (x : EReal) (b : EReal) = ((x / b : ℝ) : EReal) := by
  unfold Ideal.div
  rw [if_neg (by exact_mod_cast h.ne'), div_eq_mul_inv, EReal.coe_mul, EReal.coe_inv]

/-- The similarity is real, and equals the dot product of the scaled vectors. -/
theorem cos_eq (x y : Fin 64 → EReal) : ∃ s : ℝ, cos x y = (s : EReal)
    ∧ (∑ k : Fin 64, Ideal.div (x k) (bound x) * Ideal.div (y k) (bound y)) = (s : EReal) := by
  unfold cos
  rcases bound_cases x with hx | ⟨bx, fx, hbx, ex, hfx⟩
  · refine ⟨0, ?_, ?_⟩
    · rw [hx, div_top]; simp
    · rw [hx]; simp [div_top]
  rcases bound_cases y with hy | ⟨b, fy, hby, ey, hfy⟩
  · refine ⟨0, ?_, ?_⟩
    · rw [hy, div_top]; simp
    · rw [hy]; simp [div_top]
  rw [ex, ey]
  simp only [hfx, hfy]
  have h1 : Ideal.div 1 (bx : EReal) = ((1 / bx : ℝ) : EReal) := div_coe 1 bx hbx
  have h2 : Ideal.div 1 (b : EReal) = ((1 / b : ℝ) : EReal) := div_coe 1 b hby
  refine ⟨(∑ k : Fin 64, fx k * fy k) * (1 / bx) * (1 / b), ?_, ?_⟩
  · rw [h1, h2]
    push_cast
    rfl
  · simp only [div_coe _ _ hbx, div_coe _ _ hby]
    have h3 : (∑ k : Fin 64, fx k * fy k) * (1 / bx) * (1 / b) = ∑ k : Fin 64, fx k / bx * (fy k / b) := by
      rw [Finset.sum_mul, Finset.sum_mul]
      exact Finset.sum_congr rfl fun k _ => by ring
    rw [h3]
    push_cast
    rfl

end Cert.KernelIdeal.Block

end
-- ==== Proof.Nearest.lean ====
module

public import proofs.«01_k».proof.Proof.Sums
public import Idealize.ShloMosaic.Lib.SortFacts
public import Idealize.ShloMosaic.Lib.Pointwise.Sums
public import Idealize.ShloMosaic.Lib.Pointwise.Select

@[expose] public section

noncomputable section

open Idealize.ShloMosaic Idealize.ShloMosaic.TcCoe

/-!
The nearest columns of a row of distances: the order a descending sort of the negated distances gives, and, where the first
seventeen are strictly increasing and no lane holds more than four of the first sixteen, the columns within the level that
fifteen rounds leave.
-/

namespace Cert.Knn

open Cert.KernelIdeal.Block

/-- The column at a place of the order. -/
def nth (D : Fin 4096 → EReal) : Fin 4096 → Fin 4096 :=
  sortedFrom fun k k' => Ideal.cmp .ogt (-(D k)) (-(D k')) == 1#1

/-- A place among the first sixteen, as a place of the whole order. -/
def place (k : Fin 16) : Fin 4096 := ⟨k.val, by omega⟩

/-- The column of one of the sixteen nearest. -/
def near (D : Fin 4096 → EReal) (k : Fin 16) : Fin 4096 := nth D (place k)

/-- The lane of a column. -/
def laneOf (c : Fin 4096) : Fin 256 := ⟨c.val % 256, by omega⟩

/-- Each place of the order is one column, and each column is at one place. -/
theorem nth_bijective (D : Fin 4096 → EReal) : Function.Bijective (nth D) :=
  ⟨sortedFrom_injective _, sortedFrom_surjective _⟩

/-- Distances do not decrease along the order. -/
theorem nth_mono (D : Fin 4096 → EReal) {i j : Fin 4096} (h : i ≤ j) : D (nth D i) ≤ D (nth D j) := by
  rcases h.eq_or_lt with rfl | h
  · exact le_rfl
  have e : ∀ a b : Fin 4096, ((Ideal.cmp .ogt (-(D a)) (-(D b)) == 1#1) = true ↔ D a < D b) := fun a b => by
    rw [beq_iff_eq]
    exact (Ideal.cmp_ogt_eq_one _ _).trans EReal.neg_lt_neg_iff
  have e' : ∀ a b : Fin 4096, ((Ideal.cmp .ogt (-(D a)) (-(D b)) == 1#1) = false ↔ D b ≤ D a) := fun a b => by
    rw [← not_lt, ← e, Bool.not_eq_true]
  have hp := sortedFrom_noInversion (fun a b : Fin 4096 => Ideal.cmp .ogt (-(D a)) (-(D b)) == 1#1)
    (fun a b : Fin 4096 => Ideal.cmp .ogt (-(D a)) (-(D b)) == 1#1)
    (fun a b hab => (e' _ _).mpr ((e _ _).mp hab).le) (fun _ _ hab => hab)
    (fun a b c hab hbc => (e' _ _).mpr (((e' _ _).mp hbc).trans ((e' _ _).mp hab))) i j h
  exact (e' _ _).mp hp

/-- The selection of a row is clear: the first seventeen distances are strictly increasing, and no lane holds more than four
    of the first sixteen. -/
structure Clear (D : Fin 4096 → EReal) : Prop where
  /-- Each of the sixteen is nearer than the next. -/
  strict : ∀ k : Fin 16, D (nth D (place k)) < D (nth D ⟨k.val + 1, by omega⟩)
  /-- At most four of the sixteen share the lane of one of them. -/
  four : ∀ k : Fin 16, (Finset.univ.filter fun r : Fin 16 => laneOf (near D r) = laneOf (near D k)).card ≤ 4

variable {D : Fin 4096 → EReal}

/-- The columns within one of the sixteen distances are those up to its place. -/
theorem le_near (h : Clear D) (n : Fin 4096) (k : Fin 16) : D (nth D n) ≤ D (near D k) ↔ n.val ≤ k.val := by
  constructor
  · intro hle
    by_contra hn
    have h1 : (⟨k.val + 1, by omega⟩ : Fin 4096) ≤ n := Fin.mk_le_of_le_val (by omega)
    exact absurd ((h.strict k).trans_le (nth_mono D h1)) (not_lt.mpr hle)
  · intro hn
    exact nth_mono D (Fin.le_def.mpr hn)

/-- How many values of a lane are at most a level, counted along the order. -/
theorem count_lane (D : Fin 4096 → EReal) (l : Fin 256) (x : EReal) :
    (∑ j : Fin 16, below (D (col j l)) x)
      = (Finset.univ.filter fun n : Fin 4096 => laneOf (nth D n) = l ∧ D (nth D n) ≤ x).card := by
  rw [Finset.card_filter]
  rw [(nth_bijective D).sum_comp (fun c => if laneOf c = l ∧ D c ≤ x then 1 else 0)]
  rw [Fin.sum_univ_tiles 16 256 (by norm_num) (fun c : Fin 4096 => if laneOf c = l ∧ D c ≤ x then 1 else 0)]
  refine Finset.sum_congr rfl fun j _ => ?_
  rw [Finset.sum_eq_single l]
  · have e : laneOf (col j l) = l := Fin.ext (by show (j.val * 256 + l.val) % 256 = l.val; omega)
    show below (D (col j l)) x = if laneOf (col j l) = l ∧ D (col j l) ≤ x then 1 else 0
    rw [e]
    simp [below]
  · intro b _ hb
    refine if_neg fun hh => hb (Fin.ext ?_)
    have e := congrArg Fin.val hh.1
    change (j.val * 256 + b.val) % 256 = l.val at e
    omega
  · exact fun hh => absurd (Finset.mem_univ _) hh

/-- Of the first sixteen places of the order, those before a place and in a lane. -/
theorem card_places (D : Fin 4096 → EReal) (l : Fin 256) (k : ℕ) (hk : k ≤ 16) :
    (Finset.univ.filter fun n : Fin 4096 => laneOf (nth D n) = l ∧ n.val < k).card
      = taken (fun r => laneOf (near D r)) k l := by
  symm
  unfold taken
  refine Finset.card_bij (fun r _ => place r) ?_ ?_ ?_
  · intro r hr
    rw [Finset.mem_filter] at hr ⊢
    exact ⟨Finset.mem_univ _, hr.2.2, hr.2.1⟩
  · intro a _ b _ hab
    exact Fin.ext (congrArg (fun p : Fin 4096 => p.val) hab)
  · intro n hn
    rw [Finset.mem_filter] at hn
    exact ⟨⟨n.val, by omega⟩, by rw [Finset.mem_filter]; exact ⟨Finset.mem_univ _, hn.2.2, hn.2.1⟩, rfl⟩

/-- A clear row gives what the rounds need. -/
theorem Clear.chosen (h : Clear D) : Chosen (fun l x => ∑ j : Fin 16, below (D (col j l)) x) (fun k => D (near D k))
    (fun k => laneOf (near D k)) where
  before k l x hx := by
    show (∑ j : Fin 16, below (D (col j l)) x) ≤ _
    rw [count_lane, ← card_places D l k.val (by omega)]
    refine Finset.card_le_card fun n hn => ?_
    rw [Finset.mem_filter] at hn ⊢
    refine ⟨hn.1, hn.2.1, ?_⟩
    by_contra hk
    exact absurd (hn.2.2.trans_lt hx) (not_lt.mpr (nth_mono D (Fin.le_def.mpr (not_lt.mp hk))))
  upto k l := by
    show (∑ j : Fin 16, below (D (col j l)) (D (near D k))) = _
    rw [count_lane, ← card_places D l (k.val + 1) (by omega)]
    refine congrArg Finset.card (Finset.filter_congr fun n _ => ?_)
    rw [le_near h, Nat.lt_succ_iff]
  four l := by
    by_cases hl : ∃ k, laneOf (near D k) = l
    · obtain ⟨k, rfl⟩ := hl
      refine (Finset.card_le_card fun r hr => ?_).trans (h.four k)
      rw [Finset.mem_filter] at hr ⊢
      exact ⟨hr.1, hr.2.2⟩
    · refine (Nat.le_of_eq ?_).trans (Nat.zero_le 4)
      rw [taken, Finset.card_eq_zero, Finset.filter_eq_empty_iff]
      exact fun r _ hr => hl ⟨r, hr.2⟩
  fin k := (h.strict k).trans_le le_top

/-- The level is the sixteenth distance. -/
theorem reach_eq (h : Clear D) : reach D = D (near D 15) :=
  rowMin_iterate h.chosen (lanes D) (fun l x => counts_topFour (fun j => D (col j l)) x) 15

/-- A sum over the columns within the level is the sum over the sixteen nearest. -/
theorem sum_inside (h : Clear D) (f : Fin 4096 → EReal) :
    (∑ c : Fin 4096, if D c ≤ reach D then f c else 0) = ∑ k : Fin 16, f (near D k) := by
  rw [reach_eq h, ← (nth_bijective D).sum_comp]
  have e : ∀ n : Fin 4096, (if D (nth D n) ≤ D (near D 15) then f (nth D n) else 0)
      = if n.val ≤ 15 then f (nth D n) else 0 := fun n => if_congr (le_near h n 15) rfl rfl
  rw [Finset.sum_congr rfl fun n _ => e n]
  refine (Fin.sum_univ_add (a := 16) (b := 4080) (fun n : Fin 4096 => if n.val ≤ 15 then f (nth D n) else 0)).trans ?_
  have z : (∑ i : Fin 4080, (fun n : Fin 4096 => if n.val ≤ 15 then f (nth D n) else 0) (Fin.natAdd 16 i)) = 0 :=
    Finset.sum_eq_zero fun i _ => if_neg (by show ¬(16 + i.val ≤ 15); omega)
  rw [z, add_zero]
  exact Finset.sum_congr rfl fun k _ => if_pos (by show k.val ≤ 15; omega)

end Cert.Knn

end
-- ==== Proof.Spec.lean ====
module

public import proofs.«01_k».proof.Proof.Similar
public import proofs.«01_k».proof.Proof.Nearest

@[expose] public section

noncomputable section

open Idealize.ShloMosaic Idealize.ShloMosaic.TcCoe

/-!
What the loss is made of: for each segment and each query of it, sums over the query's sixteen nearest columns. And what the
kernel's masked sums over all the columns of one query come to.
-/

namespace Cert.Knn

open Cert.KernelIdeal.Block

/-- Row `i` of segment `b`. -/
def rowOf (b : Fin 8) (i : Fin 4096) : Fin 32768 := ⟨b.val * 4096 + i.val, by omega⟩

section Loss
variable (X : Fin 32768 → Fin 64 → EReal) (C : Fin 32768 → Fin 3 → EReal) (L : Fin 32768 → BitVec 32)

/-- The squared distance of two rows of a segment. -/
def gap (b : Fin 8) (i c : Fin 4096) : EReal :=
  ∑ k : Fin 3, (C (rowOf b i) k - C (rowOf b c) k) * (C (rowOf b i) k - C (rowOf b c) k)

/-- The cosine similarity of two rows of a segment. -/
def alike (b : Fin 8) (i c : Fin 4096) : EReal := cos (X (rowOf b i)) (X (rowOf b c))

/-- Whether two rows of a segment have one label. -/
def same (b : Fin 8) (i c : Fin 4096) : Prop := L (rowOf b i) = L (rowOf b c)

instance (b : Fin 8) (i c : Fin 4096) : Decidable (same L b i c) := inferInstanceAs (Decidable (_ = _))

/-- A sum over segments, queries and the query's sixteen nearest. -/
def overNearest (f : Fin 8 → Fin 4096 → Fin 4096 → EReal) : EReal :=
  ∑ b : Fin 8, ∑ i : Fin 4096, ∑ k : Fin 16, f b i (near (gap C b i) k)

/-- The loss of the pairs of one label. -/
def pull : EReal := overNearest C fun b i c => if same L b i c then 1 - alike X b i c else 0
/-- How many pairs have one label. -/
def pullCount : EReal := overNearest C fun b i c => if same L b i c then 1 else 0
/-- The loss of the pairs of two labels. -/
def thrust : EReal := overNearest C fun b i c => if same L b i c then 0 else push (alike X b i c)
/-- How many pairs have two labels. -/
def thrustCount : EReal := overNearest C fun b i c => if same L b i c then 0 else 1

end Loss

/-- The sum of reals, as an extended real. -/
theorem real_sum {ι : Type} [Fintype ι] (g : ι → ℝ) : ((∑ i, g i : ℝ) : EReal) = ∑ i, (g i : EReal) :=
  map_sum (⟨⟨Real.toEReal, rfl⟩, EReal.coe_add⟩ : ℝ →+ EReal) g Finset.univ

/-- A finite sum of real numbers is a real number. -/
theorem sum_real {ι : Type} [Fintype ι] (f : ι → EReal) (hf : ∀ i, ∃ r : ℝ, f i = (r : EReal)) :
    ∃ r : ℝ, (∑ i, f i) = (r : EReal) := by
  choose g hg using hf
  refine ⟨∑ i, g i, ?_⟩
  simp only [hg, real_sum]

/-- Where all terms are real numbers, a difference of sums is the sum of the differences. -/
theorem sub_sum {ι : Type} [Fintype ι] (f g : ι → EReal) (hf : ∀ i, ∃ r : ℝ, f i = (r : EReal))
    (hg : ∀ i, ∃ r : ℝ, g i = (r : EReal)) : (∑ i, f i) - (∑ i, g i) = ∑ i, (f i - g i) := by
  choose u hu using hf
  choose v hv using hg
  simp only [hu, hv, ← EReal.coe_sub]
  have e : ((∑ i, u i : ℝ) : EReal) - ((∑ i, v i : ℝ) : EReal) = ((∑ i, (u i - v i) : ℝ) : EReal) := by
    rw [← EReal.coe_sub, Finset.sum_sub_distrib]
  simpa only [real_sum, EReal.coe_sub] using e

/-- A choice between zero and one is a real number. -/
theorem bit_real (p : Prop) [Decidable p] : ∃ r : ℝ, (if p then (1 : EReal) else 0) = (r : EReal) := by
  by_cases h : p
  · exact ⟨1, by rw [if_pos h]; rfl⟩
  · exact ⟨0, by rw [if_neg h]; rfl⟩

section Row
variable {D : Fin 4096 → EReal} (h : Clear D) (p : Fin 4096 → Prop) [DecidablePred p] (s : Fin 4096 → EReal)
include h

/-- All masked columns of a row. -/
theorem row_mask : (∑ c : Fin 4096, inside D c) = ∑ _k : Fin 16, (1 : EReal) := sum_inside h fun _ => 1

/-- The masked columns of a row with the row's label. -/
theorem row_pos : (∑ c : Fin 4096, if p c then inside D c else 0) = ∑ k : Fin 16, if p (near D k) then (1 : EReal) else 0 := by
  rw [← sum_inside h fun c => if p c then (1 : EReal) else 0]
  refine Finset.sum_congr rfl fun c _ => ?_
  unfold inside
  split <;> split <;> rfl

/-- The similarities of the masked columns of a row with the row's label. -/
theorem row_sim : (∑ c : Fin 4096, s c * if p c then inside D c else 0)
    = ∑ k : Fin 16, if p (near D k) then s (near D k) else 0 := by
  rw [← sum_inside h fun c => if p c then s c else 0]
  refine Finset.sum_congr rfl fun c _ => ?_
  unfold inside
  split <;> split <;> simp

/-- The hinges of the masked columns of a row with another label. -/
theorem row_push : (∑ c : Fin 4096, s c * (inside D c - if p c then inside D c else 0))
    = ∑ k : Fin 16, if p (near D k) then 0 else s (near D k) := by
  rw [← sum_inside h fun c => if p c then 0 else s c]
  refine Finset.sum_congr rfl fun c _ => ?_
  have z : (1 : EReal) - 1 = 0 := by rw [← EReal.coe_one, ← EReal.coe_sub, sub_self]; rfl
  unfold inside
  split <;> split <;> simp [z]

end Row

/-- The pull of a block of queries: the count less the similarities. -/
theorem rows_pull {n : ℕ} (D : Fin n → Fin 4096 → EReal) (h : ∀ r, Clear (D r)) (p : Fin n → Fin 4096 → Prop)
    [∀ r, DecidablePred (p r)] (s : Fin n → Fin 4096 → EReal) (hs : ∀ r c, ∃ x : ℝ, s r c = (x : EReal)) :
    (∑ r, ∑ c : Fin 4096, if p r c then inside (D r) c else 0)
        - (∑ r, ∑ c : Fin 4096, s r c * if p r c then inside (D r) c else 0)
      = ∑ r, ∑ k : Fin 16, if p r (near (D r) k) then 1 - s r (near (D r) k) else 0 := by
  have hb : ∀ r k, ∃ x : ℝ, (if p r (near (D r) k) then s r (near (D r) k) else 0) = (x : EReal) := fun r k => by
    split
    · exact hs _ _
    · exact ⟨0, rfl⟩
  simp only [row_pos (h _) (p _), row_sim (h _) (p _) (s _)]
  rw [sub_sum _ _ (fun r => sum_real _ fun k => bit_real _) (fun r => sum_real _ fun k => hb r k)]
  refine Finset.sum_congr rfl fun r _ => ?_
  rw [sub_sum _ _ (fun k => bit_real _) (fun k => hb r k)]
  refine Finset.sum_congr rfl fun k _ => ?_
  split
  · rfl
  · exact sub_zero _

/-- The count of the other labels in a block of queries: all masked columns less those of the row's label. -/
theorem rows_count {n : ℕ} (D : Fin n → Fin 4096 → EReal) (h : ∀ r, Clear (D r)) (p : Fin n → Fin 4096 → Prop)
    [∀ r, DecidablePred (p r)] :
    (∑ r, ∑ c : Fin 4096, inside (D r) c) - (∑ r, ∑ c : Fin 4096, if p r c then inside (D r) c else 0)
      = ∑ r, ∑ k : Fin 16, if p r (near (D r) k) then 0 else 1 := by
  have h1 : ∃ x : ℝ, (1 : EReal) = (x : EReal) := ⟨1, rfl⟩
  have z : (1 : EReal) - 1 = 0 := by rw [← EReal.coe_one, ← EReal.coe_sub, sub_self]; rfl
  simp only [row_pos (h _) (p _), row_mask (h _)]
  rw [sub_sum _ _ (fun r => sum_real _ fun _ => h1) (fun r => sum_real _ fun k => bit_real _)]
  refine Finset.sum_congr rfl fun r _ => ?_
  rw [sub_sum _ _ (fun _ => h1) (fun k => bit_real _)]
  refine Finset.sum_congr rfl fun k _ => ?_
  split
  · exact z
  · exact sub_zero _

/-- A sum over the grid's points and a point's queries is the sum over segments and queries. -/
theorem sum_grid (g : Fin 8 → Fin 4096 → EReal) :
    (∑ t : Fin 64, ∑ r : Fin 512, g ⟨t.val / 8, by omega⟩ ⟨t.val % 8 * 512 + r.val, by omega⟩) = ∑ b : Fin 8, ∑ i : Fin 4096, g b i := by
  rw [Fin.sum_univ_tiles 8 8 (by norm_num) (fun t : Fin 64 =>
    ∑ r : Fin 512, g ⟨t.val / 8, by omega⟩ ⟨t.val % 8 * 512 + r.val, by omega⟩)]
  refine Finset.sum_congr rfl fun b _ => ?_
  rw [Fin.sum_univ_tiles 8 512 (by norm_num) (g b)]
  refine Finset.sum_congr rfl fun u _ => Finset.sum_congr rfl fun r _ => ?_
  refine congrArg₂ g (Fin.ext ?_) (Fin.ext ?_)
  · show (b.val * 8 + u.val) / 8 = b.val
    omega
  · show (b.val * 8 + u.val) % 8 * 512 + r.val = u.val * 512 + r.val
    omega

end Cert.Knn

end
-- ==== Proof.Total.lean ====
module

public import proofs.«01_k».proof.Proof.Entry
public import proofs.«01_k».proof.Proof.Spec

@[expose] public section

noncomputable section

open Idealize.ShloMosaic Idealize.ShloMosaic.TcCoe Idealize.SL.Sem

/-!
The kernel's four totals, as the loss's sums over each query's nearest columns, where every query's selection is clear.
-/

namespace Cert.KernelIdeal.Entry

open Cert.KernelIdeal Cert.KernelIdeal.Gen Cert.KernelIdeal.Block Cert.KernelIdeal.Acc Cert.Knn

variable (m : (ℓ : Loc nD τ sig) → Buf (Elt Ideal) ℓ) (c : Dev nD)

/-- An argument of a device, row by row. -/
def X (r : Fin 32768) (k : Fin 64) : EReal := feats m c (ix2 r k)
@[inherit_doc X] def C (r : Fin 32768) (k : Fin 3) : EReal := coords m c (ix2 r k)
@[inherit_doc X] def L (r : Fin 32768) : BitVec 32 := labels m c (ix1 r)

/-- The segment of a point. -/
def seg (t : Fin 64) : Fin 8 := ⟨t.val / 8, by omega⟩
/-- The place of a point's query in its segment. -/
def query (t : Fin 64) (r : Fin 512) : Fin 4096 := ⟨t.val % 8 * 512 + r.val, by omega⟩

/-- A point's query is a row of its segment. -/
theorem qrow_eq (t : Fin 64) (r : Fin 512) : qrow t r = rowOf (seg t) (query t r) :=
  Fin.ext (by show t.val * 512 + r.val = t.val / 8 * 4096 + (t.val % 8 * 512 + r.val); omega)

/-- A point's column is a row of its segment. -/
theorem crow_eq (t : Fin 64) (x : Fin 4096) : crow t x = rowOf (seg t) x := rfl

/-- A point's distances are the segment's. -/
theorem far_eq (t : Fin cfg0.N) (r : Fin 512) :
    far (iblk m c 0 t) (iblk m c 1 t) r = gap (C m c) (seg (t.cast N_0)) (query (t.cast N_0) r) := by
  funext x
  unfold far gap
  refine Finset.sum_congr rfl fun k _ => ?_
  have e0 := iblk_0 m c t r k
  have e1 := iblk_1 m c t k x
  rw [qrow_eq] at e0
  rw [crow_eq] at e1
  exact congrArg₂ (fun a b : EReal => (a - b) * (a - b)) e0 e1

/-- A point's similarities are the segment's. -/
theorem sim_eq (t : Fin cfg0.N) (r : Fin 512) (x : Fin 4096) :
    sim (iblk m c 2 t) (iblk m c 3 t) r x = alike (X m c) (seg (t.cast N_0)) (query (t.cast N_0) r) x := by
  unfold sim alike
  refine congrArg₂ cos (funext fun k => ?_) (funext fun k => ?_)
  · have e := iblk_2 m c t r k
    rw [qrow_eq] at e
    exact e
  · have e := iblk_3 m c t k x
    rw [crow_eq] at e
    exact e

/-- Two labels are equal where their values as real numbers are. -/
theorem label_eq (a b : BitVec 32) : (((a.toInt : ℝ) : EReal) = ((b.toInt : ℝ) : EReal)) ↔ a = b := by
  rw [EReal.coe_eq_coe_iff, Int.cast_inj, BitVec.toInt_inj]

/-- A point's positive mask keeps the masked columns of the query's label. -/
theorem pos_eq (t : Fin cfg0.N) (r : Fin 512) (x : Fin 4096) :
    pos (iblk m c 0 t) (iblk m c 1 t) (iblk m c 4 t) (iblk m c 5 t) r x
      = if same (L m c) (seg (t.cast N_0)) (query (t.cast N_0) r) x
        then inside (gap (C m c) (seg (t.cast N_0)) (query (t.cast N_0) r)) x else 0 := by
  unfold pos mask
  rw [far_eq]
  have e4 := iblk_4 m c t r
  have e5 := iblk_5 m c t x
  rw [qrow_eq] at e4
  rw [crow_eq] at e5
  refine if_congr ?_ rfl rfl
  exact (Iff.of_eq (congrArg₂ (fun a b : EReal => a = b) e4 e5)).trans (label_eq _ _)

variable {m c} (h : ∀ b i, Clear (gap (C m c) b i))

/-- The sum over all the grid's points of a function of segment, query and one nearest column. -/
theorem upTo_eq (add : Fin cfg0.N → EReal) (f : Fin 8 → Fin 4096 → Fin 4096 → EReal)
    (e : ∀ t, add t = ∑ r : Fin 512, ∑ k : Fin 16,
      f (seg (t.cast N_0)) (query (t.cast N_0) r) (near (gap (C m c) (seg (t.cast N_0)) (query (t.cast N_0) r)) k)) :
    upTo add 63 = overNearest (C m c) f := by
  have hN : cfg0.N = 64 := N_0
  have e1 : upTo add 63 = ∑ t : Fin cfg0.N, add t := by
    unfold upTo
    exact Finset.sum_congr rfl fun t _ => if_pos (by omega)
  rw [e1, Finset.sum_congr rfl fun t _ => e t]
  refine ((finCongr hN).sum_comp fun t : Fin 64 => ∑ r : Fin 512, ∑ k : Fin 16,
    f (seg t) (query t r) (near (gap (C m c) (seg t) (query t r)) k)).trans ?_
  exact sum_grid fun b i => ∑ k : Fin 16, f b i (near (gap (C m c) b i) k)

include h

/-- The total of the first accumulator. -/
theorem total_pull : upTo (add6 m c) 63 = pull (X m c) (C m c) (L m c) := by
  refine upTo_eq _ _ fun t => ?_
  unfold add6
  rw [addPos_eq]
  simp only [pos_eq, sim_eq]
  exact rows_pull (fun r => gap (C m c) (seg (t.cast N_0)) (query (t.cast N_0) r)) (fun r => h _ _)
    (fun r => same (L m c) (seg (t.cast N_0)) (query (t.cast N_0) r))
    (fun r => alike (X m c) (seg (t.cast N_0)) (query (t.cast N_0) r))
    (fun r x => (cos_eq _ _).imp fun s hs => hs.1)

/-- The total of the second accumulator. -/
theorem total_pullCount : upTo (add7 m c) 63 = pullCount (C m c) (L m c) := by
  refine upTo_eq _ _ fun t => ?_
  unfold add7
  rw [addPosCount_eq]
  simp only [pos_eq]
  exact Finset.sum_congr rfl fun r _ => row_pos (h _ _) (same (L m c) (seg (t.cast N_0)) (query (t.cast N_0) r))

/-- The total of the third accumulator. -/
theorem total_thrust : upTo (add8 m c) 63 = thrust (X m c) (C m c) (L m c) := by
  refine upTo_eq _ _ fun t => ?_
  unfold add8
  rw [addNeg_eq]
  simp only [pos_eq, sim_eq, mask, far_eq]
  exact Finset.sum_congr rfl fun r _ => row_push (h _ _) (same (L m c) (seg (t.cast N_0)) (query (t.cast N_0) r))
    fun x => push (alike (X m c) (seg (t.cast N_0)) (query (t.cast N_0) r) x)

/-- The total of the fourth accumulator. -/
theorem total_thrustCount : upTo (add9 m c) 63 = thrustCount (C m c) (L m c) := by
  refine upTo_eq _ _ fun t => ?_
  unfold add9
  rw [addNegCount_eq]
  simp only [pos_eq, mask, far_eq]
  exact rows_count (fun r => gap (C m c) (seg (t.cast N_0)) (query (t.cast N_0) r)) (fun r => h _ _)
    (fun r => same (L m c) (seg (t.cast N_0)) (query (t.cast N_0) r))

end Cert.KernelIdeal.Entry

end
-- ==== Proof.TopK.lean ====
module

public import proofs.«01_k».proof.Proof.Nearest
public import Idealize.ShloMosaic.Lib.Pointwise.Index
public import Idealize.ShloMosaic.Lib.Pipeline.Value

@[expose] public section

noncomputable section

open Idealize.ShloMosaic Idealize.ShloMosaic.TcCoe

/-!
The host's selection of the greatest negated distances, as the order of the distances themselves.
-/

namespace Cert.Knn

/-- A shape of one row of columns per query. -/
abbrev Cols : Shape := ⟨3, ![8, 4096, 4096]⟩

/-- Sorting by the negated distances, descending, carries any second operand along in the order of the distances. -/
theorem sort2_nth {β : Type} (x : Cols.Idx → EReal) (y : Cols.Idx → β) (D : Fin 4096 → EReal) (b : Fin 8) (i n : Fin 4096)
    (hD : ∀ c, x (ix3 b i c) = -(D c)) :
    (Host.sort2 Cols 2 (fun l r => Ideal.cmp .ogt l.1 r.1) x y).1 (ix3 b i n) = x (ix3 b i (nth D n))
      ∧ (Host.sort2 Cols 2 (fun l r => Ideal.cmp .ogt l.1 r.1) x y).2 (ix3 b i n) = y (ix3 b i (nth D n)) := by
  have e : ∀ c : Fin 4096, Shape.Idx.along (s := Cols) (ix3 b i n) 2 c = ix3 b i c := fun c => by
    funext a
    match a with
    | ⟨0, _⟩ => rfl
    | ⟨1, _⟩ => rfl
    | ⟨2, _⟩ => rfl
  have es : (sortedFrom fun k k' : Fin 4096 => Ideal.cmp .ogt (x (Shape.Idx.along (s := Cols) (ix3 b i n) 2 k))
      (x (Shape.Idx.along (s := Cols) (ix3 b i n) 2 k')) == 1#1) = nth D := by
    unfold nth
    simp only [e, hD]
  have er : 2 < Cols.rank := by decide
  unfold Host.sort2
  simp only [dif_pos er]
  exact ⟨(congrArg (fun f : Fin 4096 → Fin 4096 => x (Shape.Idx.along (s := Cols) (ix3 b i n) 2 (f n))) es).trans (congrArg x (e _)),
    (congrArg (fun f : Fin 4096 → Fin 4096 => y (Shape.Idx.along (s := Cols) (ix3 b i n) 2 (f n))) es).trans (congrArg y (e _))⟩

/-- The greatest of the negated distances are those of the first places of the order, and their positions are the columns
    there. -/
theorem topK_nth {K : ℕ} (x : Cols.Idx → EReal) (h : Cols.Slices (fun _ => 0) ⟨3, ![8, 4096, K]⟩)
    (D : Fin 4096 → EReal) (b : Fin 8) (i : Fin 4096) (hD : ∀ c, x (ix3 b i c) = -(D c)) (k : Fin K) (n : Fin 4096)
    (hn : n.val = k.val) :
    (Host.topK ⟨3, ![8, 4096, K]⟩ 2 (fun l r : EReal => Ideal.cmp .ogt l r) x h).1 (ix3 b i k) = -(D (nth D n))
      ∧ (Host.topK ⟨3, ![8, 4096, K]⟩ 2 (fun l r : EReal => Ideal.cmp .ogt l r) x h).2 (ix3 b i k)
        = BitVec.ofNat 32 (nth D n).val := by
  have hs : ∀ a : Fin 3, ((ix3 b i n : Cols.Idx) a).val
      = 0 + ((ix3 b i k : (⟨3, ![8, 4096, K]⟩ : Shape).Idx) (a.cast h.1.symm)).val := fun a => by
    rw [Nat.zero_add]
    match a with
    | ⟨0, _⟩ => rfl
    | ⟨1, _⟩ => rfl
    | ⟨2, _⟩ => exact hn
  have er : 2 < Cols.rank := by decide
  unfold Host.topK
  dsimp only
  constructor
  · refine (extractStridedSlice_apply (fun _ => 0) _ h (ix3 b i k) (ix3 b i n) hs).trans ?_
    exact (sort2_nth x _ D b i n hD).1.trans (hD _)
  · refine (extractStridedSlice_apply (fun _ => 0) _ h (ix3 b i k) (ix3 b i n) hs).trans ?_
    refine (sort2_nth x _ D b i n hD).2.trans ?_
    exact dif_pos er

end Cert.Knn

end
-- ==== Proof.RefDist.lean ====
module

public import proofs.«01_k».proof.Proof.Gen.ReferenceIdeal.Read
public import proofs.«01_k».proof.Proof.Spec
public import proofs.«01_k».proof.Proof.TopK

@[expose] public section

noncomputable section

open Idealize.ShloMosaic Idealize.ShloMosaic.TcCoe

/-!
The reference's distances and its scaled features, at an index.
-/

namespace Cert.ReferenceIdeal.Read

open Cert.ReferenceIdeal Cert.Knn

variable (x0 : FVec Ideal S32768x64 .f32) (x1 : FVec Ideal S32768x3 .f32) (x3 : IVec S32768 32)

/-- The coordinates, segment by segment. -/
theorem coord_apply (b : Fin 8) (i : Fin 4096) (k : Fin 3) : val_main_v4 (F := Ideal) x1 (ix3 b i k) = x1 (ix2 (rowOf b i) k) := by
  rw [val_main_v4_apply]
  refine congrArg x1 (funext fun a => Fin.ext ?_)
  match a with
  | ⟨0, _⟩ => show ((b.val * 4096 + i.val) * 3 + k.val) / 3 = b.val * 4096 + i.val; omega
  | ⟨1, _⟩ => show ((b.val * 4096 + i.val) * 3 + k.val) % 3 = k.val; omega

/-- The reference's negated squared distance. -/
theorem v12_eq (b : Fin 8) (i c : Fin 4096) :
    val_main_v12 (F := Ideal) x1 (ix3 b i c) = -(gap (fun r k => x1 (ix2 r k)) b i c) := by
  rw [val_main_v12_apply, val_main_v11_apply]
  show -(Ideal.ofBits .f32 0x00000000#32 + _) = _
  rw [Ideal.ofBits_zero_f32, zero_add]
  unfold gap
  refine congrArg Neg.neg (Finset.sum_congr rfl fun k _ => ?_)
  rw [val_main_v10_apply, val_main_v9_apply, val_main_v7_apply, val_main_v8_apply, val_main_v5_apply, val_main_v6_apply]
  have e5 : idx_main_v5 (idx_main_v7 (idx_main_v11 (ix3 b i c) k)) = ix3 b i k :=
    funext fun a => match a with | ⟨0, _⟩ => rfl | ⟨1, _⟩ => rfl | ⟨2, _⟩ => rfl
  have e6 : idx_main_v6 (idx_main_v8 (idx_main_v11 (ix3 b i c) k)) = ix3 b c k :=
    funext fun a => match a with | ⟨0, _⟩ => rfl | ⟨1, _⟩ => rfl | ⟨2, _⟩ => rfl
  rw [e5, e6, coord_apply, coord_apply]
  rfl

end Cert.ReferenceIdeal.Read

end
-- ==== Proof.Clear.lean ====
module

public import proofs.«01_k».proof.Pre_unambiguous
public import proofs.«01_k».proof.Proof.RefDist
public import Idealize.ShloMosaic.Lib.ReduceAll
public import Idealize.ShloMosaic.Lib.StableHlo.Predicate

@[expose] public section

noncomputable section

open Idealize.ShloMosaic Idealize.ShloMosaic.TcCoe

/-!
What the precondition says: every query's selection is clear, and no row lacks a label.
-/

namespace Cert.Pre_unambiguous

open Cert.Pre_unambiguous Cert.Knn Cert.ReferenceIdeal.Read

/-- The side conditions of the precondition's operations. -/
theorem facts : Facts := by constructor <;> decide

variable [Facts]
open Facts

/-- The precondition's seventeen nearest. -/
def best (x1 : FVec Ideal S32768x3 .f32) : FVec Ideal S8x4096x17 .f32 × IVec S8x4096x17 32 :=
  Host.topK S8x4096x17 2 (fun l r : EReal => Ideal.cmp .ogt l r) (val_main_v12 (F := Ideal) x1) sliceFits_S8x4096x4096_S8x4096x17

/-- The precondition's lanes of the sixteen nearest. -/
def bestLane (x1 : FVec Ideal S32768x3 .f32) : IVec S8x4096x16 32 :=
  andi (extractStridedSlice S8x4096x16 ![0, 0, 0] (best x1).2 slices_S8x4096x17_S8x4096x16_0_0_0)
    (broadcastInDim S8x4096x16 ![] bcast_S_S8x4096x16 (constantI S_ 32 255#32))

/-- How many of the sixteen nearest share a lane. -/
def shared (x1 : FVec Ideal S32768x3 .f32) : IVec S8x4096x16 32 :=
  Host.reduce IntOp.addi (extui 32 (cmpi .eq
    (broadcastInDim S8x4096x16x16 ![0, 1, 2, 3] bcast_S8x4096x16x1_S8x4096x16x16_0_1_2_3
      (broadcastInDim S8x4096x16x1 ![0, 1, 2] bcast_S8x4096x16_S8x4096x16x1_0_1_2 (bestLane x1)))
    (broadcastInDim S8x4096x16x16 ![0, 1, 2, 3] bcast_S8x4096x1x16_S8x4096x16x16_0_1_2_3
      (broadcastInDim S8x4096x1x16 ![0, 1, 3] bcast_S8x4096x16_S8x4096x1x16_0_1_3 (bestLane x1)))) natLt_1_32)
    (constantI S_ 32 0#32) reducesTo_S8x4096x16x16_S8x4096x16_d3 h_S_

/-- The three parts of the precondition. -/
theorem parts (x0 : FVec Ideal S32768x64 .f32) (x1 : FVec Ideal S32768x3 .f32) (x2 : IVec S8 32) (x3 : IVec S32768 32)
    (h : fn (F := Ideal) x0 x1 x2 x3 = fun _ => 1#1) :
    (∀ j : S8x4096x16.Idx, Ideal.cmp .olt
        (extractStridedSlice S8x4096x16 ![0, 0, 1] (best x1).1 slices_S8x4096x17_S8x4096x16_0_0_1 j)
        (extractStridedSlice S8x4096x16 ![0, 0, 0] (best x1).1 slices_S8x4096x17_S8x4096x16_0_0_0 j) = 1#1)
      ∧ (∀ j : S8x4096x16.Idx, IntOp.cmpi .sle (shared x1 j) 4#32 = 1#1)
      ∧ ∀ j : S32768.Idx, IntOp.cmpi .ne (x3 j) 4294967295#32 = 1#1 := by
  have h0 := congrFun h (Shape.Idx.first h_S_)
  unfold fn fn_part1 at h0
  obtain ⟨h1, h2⟩ := IntOp.andi_eq_one.1 h0
  obtain ⟨h3, h4⟩ := IntOp.andi_eq_one.1 h1
  refine ⟨fun j => ?_, fun j => ?_, fun j => ?_⟩
  · exact Host.reduce_andi_all _ _ reducesTo_S8x4096x16_S_d0_1_2 h_S_ _ h3 j
  · exact Host.reduce_andi_all _ _ reducesTo_S8x4096x16_S_d0_1_2 h_S_ _ h4 j
  · exact Host.reduce_andi_all _ _ reducesTo_S32768_S_d0 h_S_ _ h2 j

/-- A sum of bits along the last axis counts those set. -/
theorem count_bits (f : IVec S8x4096x16x16 1) (b : Fin 8) (i : Fin 4096) (k : Fin 16) :
    (Host.reduce IntOp.addi (extui 32 f natLt_1_32) (constantI S_ 32 0#32) reducesTo_S8x4096x16x16_S8x4096x16_d3 h_S_
        (ix3 b i k)).toNat = (Finset.univ.filter fun r : Fin 16 => f (ix4 b i k r) = 1#1).card := by
  classical
  have hr := reducesTo_S8x4096x16x16_S8x4096x16_d3
  have hdrop : ∀ j : S8x4096x16x16.Idx, hr.drop j = ix3 b i k ↔ ix4 b i k (j 3) = j := fun j => by
    have v0 : (hr.drop j 0 : ℕ) = j 0 := Shape.ReducesTo.drop_apply_val hr j 0
    have v1 : (hr.drop j 1 : ℕ) = j 1 := Shape.ReducesTo.drop_apply_val hr j 1
    have v2 : (hr.drop j 2 : ℕ) = j 2 := Shape.ReducesTo.drop_apply_val hr j 2
    constructor
    · intro e
      rw [e] at v0 v1 v2
      funext a
      match a with
      | ⟨0, _⟩ => exact Fin.ext v0
      | ⟨1, _⟩ => exact Fin.ext v1
      | ⟨2, _⟩ => exact Fin.ext v2
      | ⟨3, _⟩ => rfl
    · intro e
      funext a
      match a with
      | ⟨0, _⟩ => exact Fin.ext (v0.trans (congrArg (fun q : S8x4096x16x16.Idx => (q 0).val) e).symm)
      | ⟨1, _⟩ => exact Fin.ext (v1.trans (congrArg (fun q : S8x4096x16x16.Idx => (q 1).val) e).symm)
      | ⟨2, _⟩ => exact Fin.ext (v2.trans (congrArg (fun q : S8x4096x16x16.Idx => (q 2).val) e).symm)
  have hsum : (∑ j ∈ Finset.univ.filter (fun j : S8x4096x16x16.Idx => hr.drop j = ix3 b i k), (extui 32 f natLt_1_32 j).toNat)
      = (Finset.univ.filter fun r : Fin 16 => f (ix4 b i k r) = 1#1).card := by
    rw [Finset.card_filter]
    refine Finset.sum_bij' (fun j _ => j 3) (fun r _ => ix4 b i k r) (fun _ _ => Finset.mem_univ _)
      (fun r _ => Finset.mem_filter.mpr ⟨Finset.mem_univ _, (hdrop _).mpr rfl⟩)
      (fun j hj => (hdrop j).mp (Finset.mem_filter.mp hj).2) (fun _ _ => rfl) fun j hj => ?_
    have e := (hdrop j).mp (Finset.mem_filter.mp hj).2
    exact (StableHlo.Predicate.toNat_setWidth_bit (f j)).trans (congrArg (fun q => if f q = 1#1 then 1 else 0) e).symm
  rw [Host.reduce_eq_fold]
  refine (StableHlo.Predicate.toNat_fold_addi _ _ ?_).trans hsum
  rw [hsum]
  exact lt_of_le_of_lt (Finset.card_le_univ _) (by simp)

/-- The precondition's seventeen nearest are the first places of the order. -/
theorem best_apply (x1 : FVec Ideal S32768x3 .f32) (b : Fin 8) (i : Fin 4096) (k : Fin 17) (n : Fin 4096) (hn : n.val = k.val) :
    (best x1).1 (ix3 b i k)
        = -(gap (fun r k => x1 (ix2 r k)) b i (nth (gap (fun r k => x1 (ix2 r k)) b i) n))
      ∧ (best x1).2 (ix3 b i k) = BitVec.ofNat 32 (nth (gap (fun r k => x1 (ix2 r k)) b i) n).val :=
  topK_nth (K := 17) (val_main_v12 (F := Ideal) x1) sliceFits_S8x4096x4096_S8x4096x17 (gap (fun r k => x1 (ix2 r k)) b i) b i
    (fun c => v12_eq x1 b i c) k n hn

/-- The slice that drops the first place. -/
theorem slice_one {α : Type} (v : S8x4096x17.Idx → α) (b : Fin 8) (i : Fin 4096) (k : Fin 16) :
    extractStridedSlice S8x4096x16 ![0, 0, 1] v slices_S8x4096x17_S8x4096x16_0_0_1 (ix3 b i k)
      = v (ix3 b i (⟨k.val + 1, by omega⟩ : Fin 17)) :=
  extractStridedSlice_apply _ v slices_S8x4096x17_S8x4096x16_0_0_1 (ix3 b i k) (ix3 b i (⟨k.val + 1, by omega⟩ : Fin 17)) fun a => by
    match a with
    | ⟨0, _⟩ => exact (Nat.zero_add _).symm
    | ⟨1, _⟩ => exact (Nat.zero_add _).symm
    | ⟨2, _⟩ => exact Nat.add_comm _ _

/-- The slice that drops the last place. -/
theorem slice_zero {α : Type} (v : S8x4096x17.Idx → α) (b : Fin 8) (i : Fin 4096) (k : Fin 16) :
    extractStridedSlice S8x4096x16 ![0, 0, 0] v slices_S8x4096x17_S8x4096x16_0_0_0 (ix3 b i k)
      = v (ix3 b i (⟨k.val, by omega⟩ : Fin 17)) :=
  extractStridedSlice_apply _ v slices_S8x4096x17_S8x4096x16_0_0_0 (ix3 b i k) (ix3 b i (⟨k.val, by omega⟩ : Fin 17)) fun a => by
    match a with
    | ⟨0, _⟩ => exact (Nat.zero_add _).symm
    | ⟨1, _⟩ => exact (Nat.zero_add _).symm
    | ⟨2, _⟩ => exact (Nat.zero_add _).symm

/-- The lane bits of one of the sixteen nearest. -/
theorem bestLane_apply (x1 : FVec Ideal S32768x3 .f32) (b : Fin 8) (i : Fin 4096) (k : Fin 16) :
    bestLane x1 (ix3 b i k) = BitVec.ofNat 32 (near (gap (fun r k => x1 (ix2 r k)) b i) k).val &&& 255#32 := by
  refine congrArg₂ (fun p q : BitVec 32 => p &&& q) ?_ ?_
  · exact (slice_zero (best x1).2 b i k).trans (best_apply x1 b i _ (place k) rfl).2
  · exact broadcastInDim_apply _ bcast_S_S8x4096x16 (constantI S_ 32 255#32) (ix3 b i k) (fun a => a.elim0) (fun a => a.elim0)

/-- The lanes, once more along a last axis. -/
theorem lanes_across (v : IVec S8x4096x16 32) (b : Fin 8) (i : Fin 4096) (k r : Fin 16) :
    broadcastInDim S8x4096x16x16 ![0, 1, 2, 3] bcast_S8x4096x16x1_S8x4096x16x16_0_1_2_3
      (broadcastInDim S8x4096x16x1 ![0, 1, 2] bcast_S8x4096x16_S8x4096x16x1_0_1_2 v) (ix4 b i k r) = v (ix3 b i k) :=
  (broadcastInDim_apply _ bcast_S8x4096x16x1_S8x4096x16x16_0_1_2_3 _ (ix4 b i k r) (ix4 b i k (0 : Fin 1)) fun a =>
    match a with | ⟨0, _⟩ => rfl | ⟨1, _⟩ => rfl | ⟨2, _⟩ => rfl | ⟨3, _⟩ => rfl).trans
  (broadcastInDim_apply _ bcast_S8x4096x16_S8x4096x16x1_0_1_2 v (ix4 b i k (0 : Fin 1)) (ix3 b i k) fun a =>
    match a with | ⟨0, _⟩ => rfl | ⟨1, _⟩ => rfl | ⟨2, _⟩ => rfl)

/-- The lanes, once more along the third axis. -/
theorem lanes_down (v : IVec S8x4096x16 32) (b : Fin 8) (i : Fin 4096) (k r : Fin 16) :
    broadcastInDim S8x4096x16x16 ![0, 1, 2, 3] bcast_S8x4096x1x16_S8x4096x16x16_0_1_2_3
      (broadcastInDim S8x4096x1x16 ![0, 1, 3] bcast_S8x4096x16_S8x4096x1x16_0_1_3 v) (ix4 b i k r) = v (ix3 b i r) :=
  (broadcastInDim_apply _ bcast_S8x4096x1x16_S8x4096x16x16_0_1_2_3 _ (ix4 b i k r) (ix4 b i (0 : Fin 1) r) fun a =>
    match a with | ⟨0, _⟩ => rfl | ⟨1, _⟩ => rfl | ⟨2, _⟩ => rfl | ⟨3, _⟩ => rfl).trans
  (broadcastInDim_apply _ bcast_S8x4096x16_S8x4096x1x16_0_1_3 v (ix4 b i (0 : Fin 1) r) (ix3 b i r) fun a =>
    match a with | ⟨0, _⟩ => rfl | ⟨1, _⟩ => rfl | ⟨2, _⟩ => rfl)

/-- Columns of one lane have the same lane bits. -/
theorem lane_bits (c d : Fin 4096) (h : laneOf c = laneOf d) : BitVec.ofNat 32 c.val &&& 255#32 = BitVec.ofNat 32 d.val &&& 255#32 := by
  have e : ∀ n : ℕ, n &&& 255 = n % 256 := fun n => Nat.and_two_pow_sub_one_eq_mod n 8
  have h' : c.val % 256 = d.val % 256 := congrArg (fun l : Fin 256 => l.val) h
  refine BitVec.eq_of_toNat_eq ?_
  rw [BitVec.toNat_and, BitVec.toNat_and, BitVec.toNat_ofNat, BitVec.toNat_ofNat, BitVec.toNat_ofNat]
  show (c.val % 2 ^ 32) &&& 255 = (d.val % 2 ^ 32) &&& 255
  rw [e, e]
  omega

/-- Under the precondition every query's selection is clear and every row has a label. -/
theorem clear (x0 : FVec Ideal S32768x64 .f32) (x1 : FVec Ideal S32768x3 .f32) (x2 : IVec S8 32) (x3 : IVec S32768 32)
    (h : fn (F := Ideal) x0 x1 x2 x3 = fun _ => 1#1) :
    (∀ b i, Clear (gap (fun r k => x1 (ix2 r k)) b i)) ∧ ∀ r : Fin 32768, x3 (ix1 r) ≠ 4294967295#32 := by
  obtain ⟨h1, h2, h3⟩ := parts x0 x1 x2 x3 h
  refine ⟨fun b i => ⟨fun k => ?_, fun k => ?_⟩, fun r e => ?_⟩
  · have e1 := (slice_one (best x1).1 b i k).trans (best_apply x1 b i _ ⟨k.val + 1, by omega⟩ rfl).1
    have e0 := (slice_zero (best x1).1 b i k).trans (best_apply x1 b i _ (place k) rfl).1
    have hk := h1 (ix3 b i k)
    rw [e1, e0] at hk
    exact EReal.neg_lt_neg_iff.mp ((Ideal.cmp_olt_eq_one _ _).mp hk)
  · have hc := count_bits (cmpi .eq
      (broadcastInDim S8x4096x16x16 ![0, 1, 2, 3] bcast_S8x4096x16x1_S8x4096x16x16_0_1_2_3
        (broadcastInDim S8x4096x16x1 ![0, 1, 2] bcast_S8x4096x16_S8x4096x16x1_0_1_2 (bestLane x1)))
      (broadcastInDim S8x4096x16x16 ![0, 1, 2, 3] bcast_S8x4096x1x16_S8x4096x16x16_0_1_2_3
        (broadcastInDim S8x4096x1x16 ![0, 1, 3] bcast_S8x4096x16_S8x4096x1x16_0_1_3 (bestLane x1)))) b i k
    have hs := h2 (ix3 b i k)
    have hlt : (shared x1 (ix3 b i k)).toNat < 2 ^ 31 := by
      unfold shared
      rw [hc]
      exact lt_of_le_of_lt (Finset.card_le_univ _) (by simp)
    have hle := (StableHlo.Predicate.sle_iff_toNat hlt (by decide)).mp hs
    unfold shared at hle
    rw [hc] at hle
    refine (Finset.card_le_card fun r hr => ?_).trans hle
    rw [Finset.mem_filter] at hr ⊢
    refine ⟨hr.1, StableHlo.Predicate.cmpi_eq_iff.mpr ?_⟩
    refine (lanes_across (bestLane x1) b i k r).trans (Eq.trans ?_ (lanes_down (bestLane x1) b i k r).symm)
    rw [bestLane_apply, bestLane_apply]
    exact lane_bits _ _ hr.2.symm
  · exact absurd (h3 (ix1 r)) (by rw [e]; decide)

end Cert.Pre_unambiguous

end
-- ==== Proof.Run.lean ====
module

public import proofs.«01_k».proof.Proof.Entry

@[expose] public section

noncomputable section

open Idealize.ShloMosaic Idealize.ShloMosaic.TcCoe Idealize.SL.Sem Idealize.ShloMosaic.StableHlo
open Idealize.ShloMosaic.Pipeline (Dat)

/-!
The kernel's run: its result is the loss of the four sums over the grid.
-/

namespace Cert.KernelIdeal.Acc

open Cert.KernelIdeal Cert.KernelIdeal.Gen Cert.KernelIdeal.Block

variable (m : (ℓ : Loc nD τ sig) → Buf (Elt Ideal) ℓ) (ρ : Dev nD → PrngReg)

/-- The loss of the positive sum and count and the hinge sum and negative count. -/
def loss (ps pc ns nc : EReal) : EReal :=
  Ideal.div ps (max pc 1) + Ideal.ofBits .f32 0x3F000000#32 * (if 0 < nc then Ideal.div ns (max nc 1) else 0)

/-! The four result arrays as the host operations after the region find them. -/

/-- The array of the positive sum. -/
theorem arrays_6 (c : Dev nD) : Pipeline.withArrays (cfgs 0).spec c (V0 m c) (fun w => (dats m 0 c).arrAt w (cfgs 0).N) (Proc.devRef .tc main_v5_0)
    = cell (upTo (add6 m c) 63) :=
  (Pipeline.withArrays_arr spec0 winFacts0.arr_inj c (V0 m c) _ 6).trans (final_6 m c)

/-- The array of the positive count. -/
theorem arrays_7 (c : Dev nD) : Pipeline.withArrays (cfgs 0).spec c (V0 m c) (fun w => (dats m 0 c).arrAt w (cfgs 0).N) (Proc.devRef .tc main_v5_1)
    = cell (upTo (add7 m c) 63) :=
  (Pipeline.withArrays_arr spec0 winFacts0.arr_inj c (V0 m c) _ 7).trans (final_7 m c)

/-- The array of the hinge sum. -/
theorem arrays_8 (c : Dev nD) : Pipeline.withArrays (cfgs 0).spec c (V0 m c) (fun w => (dats m 0 c).arrAt w (cfgs 0).N) (Proc.devRef .tc main_v5_2)
    = cell (upTo (add8 m c) 63) :=
  (Pipeline.withArrays_arr spec0 winFacts0.arr_inj c (V0 m c) _ 8).trans (final_8 m c)

/-- The array of the negative count. -/
theorem arrays_9 (c : Dev nD) : Pipeline.withArrays (cfgs 0).spec c (V0 m c) (fun w => (dats m 0 c).arrAt w (cfgs 0).N) (Proc.devRef .tc main_v5_3)
    = cell (upTo (add9 m c) 63) :=
  (Pipeline.withArrays_arr spec0 winFacts0.arr_inj c (V0 m c) _ 9).trans (final_9 m c)

/-- A comparison of extended reals selects the first value exactly when it holds. -/
theorem select_gt (x a b : EReal) : Scalar.select (Ideal.cmp .ogt x (Ideal.ofBits .f32 0x00000000#32)) a b = if 0 < x then a else b := by
  unfold Scalar.select
  simp only [Ideal.cmp_ogt_eq_one, Ideal.ofBits_zero_f32]

/-- The host's last operations make the loss of the four arrays. -/
theorem tail_eq (c : Dev nD) : Pipeline.afterTail₀ cfgs (dats m) 0 (V0 m) [hostOps1, hostOps1_1, hostOps1_2] c main_v17
    = fun _ => loss (upTo (add6 m c) 63) (upTo (add7 m c) 63) (upTo (add8 m c) 63) (upTo (add9 m c) 63) := by
  unfold Pipeline.afterTail₀
  simp only [List.flatten_cons, List.flatten_nil, List.append_nil, List.cons_append, List.nil_append]
  after_results
  rw [arrays_6, arrays_7, arrays_8, arrays_9]
  generalize upTo (add6 m c) 63 = ps
  generalize upTo (add7 m c) 63 = pc
  generalize upTo (add8 m c) 63 = ns
  generalize upTo (add9 m c) 63 = nc
  funext i
  show Ideal.div ps (max pc (Ideal.ofBits .f32 0x3F800000#32)) + Ideal.ofBits .f32 0x3F000000#32 *
    Scalar.select (Ideal.cmp .ogt nc (Ideal.ofBits .f32 0x00000000#32)) (Ideal.div ns (max nc (Ideal.ofBits .f32 0x3F800000#32)))
      (Ideal.ofBits .f32 0x00000000#32) = _
  rw [select_gt, Ideal.ofBits_one_f32, Ideal.ofBits_zero_f32]
  rfl

/-- The run: the result is the loss of the four sums, the arguments are unchanged. -/
theorem run : θ_run defs (onTc (τ := τ) (main (F := Ideal))) ⟨m, fun _ => 0, ρ⟩ fun r => ∀ c : Dev nD,
      r.2.mem ((c : Thread nD τ).loc main_v17)
        = (fun _ => loss (upTo (add6 m c) 63) (upTo (add7 m c) 63) (upTo (add8 m c) 63) (upTo (add9 m c) 63))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h.1 c).2 main_v17 (Pipeline.mem_restRefs_of main_v17 (by decide) (by decide))).trans (tail_eq m c), h.2 c⟩)
    (θ_run_and (run_main m ρ) (unchanged m ρ))

end Cert.KernelIdeal.Acc

end
-- ==== Proof.RefValue.lean ====
module

public import proofs.«01_k».proof.Proof.RefDist
public import proofs.«01_k».proof.Proof.Run
public import proofs.«01_k».proof.Proof.Gen.ReferenceIdeal
public import Idealize.ShloMosaic.Lib.StableHlo.Predicate
public import Idealize.ShloMosaic.Lib.Pointwise.Select

@[expose] public section

noncomputable section

open Idealize.ShloMosaic Idealize.ShloMosaic.TcCoe

/-!
The reference's gathered labels and similarities, at a query and one of its nearest.
-/

namespace Cert.ReferenceIdeal.Read

open Cert.ReferenceIdeal Cert.ReferenceIdeal.Gen Cert.Knn Cert.KernelIdeal.Block

variable (x0 : FVec Ideal S32768x64 .f32) (x1 : FVec Ideal S32768x3 .f32) (x3 : IVec S32768 32)

/-- The features, row by row. -/
def rowsX (r : Fin 32768) (k : Fin 64) : EReal := x0 (ix2 r k)
@[inherit_doc rowsX] def rowsC (r : Fin 32768) (k : Fin 3) : EReal := x1 (ix2 r k)
@[inherit_doc rowsX] def rowsL (r : Fin 32768) : BitVec 32 := x3 (ix1 r)

/-- The column of a query's neighbour. -/
def nbr (b : Fin 8) (i : Fin 4096) (k : Fin 16) : Fin 4096 := near (gap (rowsC x1) b i) k

/-- The reference's neighbour indices. -/
theorem indices_apply (b : Fin 8) (i : Fin 4096) (k : Fin 16) :
    val_main_indices (F := Ideal) x1 (ix3 b i k) = BitVec.ofNat 32 (nbr x1 b i k).val :=
  (topK_nth (K := 16) (val_main_v12 (F := Ideal) x1) sliceFits_S8x4096x4096_S8x4096x16 (gap (rowsC x1) b i) b i
    (fun c => v12_eq x1 b i c) k (place k) rfl).2

/-- A column's number, as a word, is not negative. -/
theorem wrap_col (n : Fin 4096) (w : BitVec 32) :
    Scalar.select (IntOp.cmpi .slt (BitVec.ofNat 32 n.val) 0#32) w (BitVec.ofNat 32 n.val) = BitVec.ofNat 32 n.val := by
  refine if_neg fun h => ?_
  have hn : (BitVec.ofNat 32 n.val).toNat < 2 ^ 31 := by rw [BitVec.toNat_ofNat]; omega
  exact absurd ((StableHlo.Predicate.slt_iff_toNat hn (by decide)).mp h) (Nat.not_lt_zero _)

/-- The first gather's index. -/
theorem v20_apply (b : Fin 8) (i : Fin 4096) (k : Fin 16) :
    val_main_v20 (F := Ideal) x1 (ix4 b i k (0 : Fin 1)) = BitVec.ofNat 32 (nbr x1 b i k).val := by
  rw [val_main_v20_apply, val_main_v19_apply, val_main_v16_apply, val_main_v15_apply]
  have e : idx_main_v20 (ix4 b i k (0 : Fin 1)) = ix3 b i k :=
    funext fun a => match a with | ⟨0, _⟩ => rfl | ⟨1, _⟩ => rfl | ⟨2, _⟩ => rfl
  rw [e, indices_apply]
  exact wrap_col _ _

/-- The second gather's index. -/
theorem v27_apply (b : Fin 8) (i : Fin 4096) (k : Fin 16) :
    val_main_v27 (F := Ideal) x1 (ix4 b i k (0 : Fin 1)) = BitVec.ofNat 32 (nbr x1 b i k).val := by
  rw [val_main_v27_apply, val_main_v26_apply, val_main_v23_apply, val_main_v22_apply]
  have e : idx_main_v27 (ix4 b i k (0 : Fin 1)) = ix3 b i k :=
    funext fun a => match a with | ⟨0, _⟩ => rfl | ⟨1, _⟩ => rfl | ⟨2, _⟩ => rfl
  rw [e, indices_apply]
  exact wrap_col _ _

/-- Reading a column's number back, as a gather does. -/
theorem read_col (n : Fin 4096) : min (BitVec.ofNat 32 n.val).toInt.toNat (4096 - 1) = n.val := by
  have hn := StableHlo.Predicate.toInt_ofNat_small n.val (by omega)
  rw [hn, Int.toNat_natCast]
  omega

/-- A gather of labels reads the segment's label at the neighbour's index. -/
theorem gather_labels (v : IVec S8x4096 32) (idx : IVec S8x4096x16x1 32) (b : Fin 8) (i : Fin 4096) (k : Fin 16) (n : Fin 4096)
    (hn : idx (ix4 b i k (0 : Fin 1)) = BitVec.ofNat 32 n.val) :
    Host.gather gather_S8x4096_S8x4096x16x1_S8x4096x16_n_1_0_0_1_3_11 v idx (ix3 b i k) = v (ix2 b n) := by
  unfold Host.gather
  refine congrArg v (funext fun a => Fin.ext ?_)
  match a with
  | ⟨0, _⟩ => exact Nat.zero_add b.val
  | ⟨1, _⟩ =>
    refine Eq.trans ?_ (read_col n)
    rw [← hn]
    have e : GatherDims.siIdx gather_S8x4096_S8x4096x16x1_S8x4096x16_n_1_0_0_1_3_11 (ix3 b i k) ⟨0, by decide⟩ = ix4 b i k (0 : Fin 1) :=
      funext fun a => match a with | ⟨0, _⟩ => rfl | ⟨1, _⟩ => rfl | ⟨2, _⟩ => rfl | ⟨3, _⟩ => rfl
    rw [← e]
    rfl

/-- A gather of rows reads the segment's row at the neighbour's index. -/
theorem gather_rows (v : FVec Ideal S8x4096x64 .f32) (idx : IVec S8x4096x16x1 32) (b : Fin 8) (i : Fin 4096) (k : Fin 16)
    (d : Fin 64) (n : Fin 4096) (hn : idx (ix4 b i k (0 : Fin 1)) = BitVec.ofNat 32 n.val) :
    Host.gather gather_S8x4096x64_S8x4096x16x1_S8x4096x16x64_3_1_0_0_1_3_1164 v idx (ix4 b i k d) = v (ix3 b n d) := by
  unfold Host.gather
  refine congrArg v (funext fun a => Fin.ext ?_)
  match a with
  | ⟨0, _⟩ => exact Nat.zero_add b.val
  | ⟨1, _⟩ =>
    refine Eq.trans ?_ (read_col n)
    rw [← hn]
    have e : GatherDims.siIdx gather_S8x4096x64_S8x4096x16x1_S8x4096x16x64_3_1_0_0_1_3_1164 (ix4 b i k d) ⟨0, by decide⟩ = ix4 b i k (0 : Fin 1) :=
      funext fun a => match a with | ⟨0, _⟩ => rfl | ⟨1, _⟩ => rfl | ⟨2, _⟩ => rfl | ⟨3, _⟩ => rfl
    rw [← e]
    rfl
  | ⟨2, _⟩ => exact Nat.zero_add d.val

/-- A segment's label. -/
theorem v13_at (b : Fin 8) (i : Fin 4096) : val_main_v13 (F := Ideal) x3 (ix2 b i) = rowsL x3 (rowOf b i) := by
  rw [val_main_v13_apply]
  unfold rowsL
  refine congrArg x3 (funext fun a => ?_)
  match a with
  | ⟨0, _⟩ => rfl

/-- The neighbour's label. -/
theorem v21_at (b : Fin 8) (i : Fin 4096) (k : Fin 16) :
    val_main_v21 (F := Ideal) x1 x3 (ix3 b i k) = rowsL x3 (rowOf b (nbr x1 b i k)) :=
  (gather_labels (val_main_v13 (F := Ideal) x3) (val_main_v20 (F := Ideal) x1) b i k _ (v20_apply x1 b i k)).trans (v13_at x3 b _)

/-- A label other than the mark of no label passes its test. -/
theorem valid_bit {a : BitVec 32} (h : a ≠ 4294967295#32) : IntOp.cmpi .ne a 4294967295#32 = 1#1 := by
  show BitVec.ofBool (a != 4294967295#32) = 1#1
  rw [bne_iff_ne.mpr h]
  rfl

/-- The two valid labels' equality, as a number. -/
theorem eq_bit {a b : BitVec 32} (ha : a ≠ 4294967295#32) (hb : b ≠ 4294967295#32) :
    FloatOps.uitofp (F := Ideal) .f32 (IntOp.andi (IntOp.cmpi .eq a b) (IntOp.andi (IntOp.cmpi .ne a 4294967295#32) (IntOp.cmpi .ne b 4294967295#32)))
      = if a = b then (1 : EReal) else 0 := by
  rw [valid_bit ha, valid_bit hb]
  by_cases h : a = b
  · rw [if_pos h, show IntOp.cmpi .eq a b = 1#1 from StableHlo.Predicate.cmpi_eq_iff.mpr h]
    exact Nat.cast_one
  · rw [if_neg h, show IntOp.cmpi .eq a b = 0#1 from congrArg BitVec.ofBool (beq_eq_false_iff_ne.mpr h)]
    exact Nat.cast_zero

/-- The two valid labels' difference, as a number. -/
theorem ne_bit {a b : BitVec 32} (ha : a ≠ 4294967295#32) (hb : b ≠ 4294967295#32) :
    FloatOps.uitofp (F := Ideal) .f32 (IntOp.andi (IntOp.cmpi .ne a b) (IntOp.andi (IntOp.cmpi .ne a 4294967295#32) (IntOp.cmpi .ne b 4294967295#32)))
      = if a = b then (0 : EReal) else 1 := by
  rw [valid_bit ha, valid_bit hb]
  by_cases h : a = b
  · rw [if_pos h, show IntOp.cmpi .ne a b = 0#1 by simp [IntOp.cmpi, h]]
    exact Nat.cast_zero
  · rw [if_neg h, show IntOp.cmpi .ne a b = 1#1 from congrArg BitVec.ofBool (bne_iff_ne.mpr h)]
    exact Nat.cast_one

/-- Both labels of a pair are valid, as the reference tests it. -/
theorem v35_at (b : Fin 8) (i : Fin 4096) (k : Fin 16) :
    val_main_v35 (F := Ideal) x1 x3 (ix3 b i k) = IntOp.andi (IntOp.cmpi .ne (rowsL x3 (rowOf b i)) 4294967295#32)
      (IntOp.cmpi .ne (rowsL x3 (rowOf b (nbr x1 b i k))) 4294967295#32) := by
  rw [val_main_v35_apply, val_main_v34_apply, val_main_v31_apply, val_main_v29_apply, val_main_v30_apply, val_main_v33_apply,
    val_main_v32_apply, v21_at]
  have e : idx_main_v29 (idx_main_v34 (ix3 b i k)) = ix2 b i := funext fun a => match a with | ⟨0, _⟩ => rfl | ⟨1, _⟩ => rfl
  rw [e, v13_at]
  rfl

section Masks
variable (hL : ∀ r : Fin 32768, x3 (ix1 r) ≠ 4294967295#32)
include hL

/-- The mask of the pairs of one label. -/
theorem v48_at (b : Fin 8) (i : Fin 4096) (k : Fin 16) :
    val_main_v48 (F := Ideal) x1 x3 (ix3 b i k) = if same (rowsL x3) b i (nbr x1 b i k) then (1 : EReal) else 0 := by
  rw [val_main_v48_apply, val_main_v39_apply, v35_at, val_main_v38_apply, val_main_v37_apply, val_main_v36_apply, v21_at]
  have e : idx_main_v36 (idx_main_v37 (ix3 b i k)) = ix2 b i := funext fun a => match a with | ⟨0, _⟩ => rfl | ⟨1, _⟩ => rfl
  rw [e, v13_at]
  exact eq_bit (hL _) (hL _)

/-- The mask of the pairs of two labels. -/
theorem v49_at (b : Fin 8) (i : Fin 4096) (k : Fin 16) :
    val_main_v49 (F := Ideal) x1 x3 (ix3 b i k) = if same (rowsL x3) b i (nbr x1 b i k) then (0 : EReal) else 1 := by
  rw [val_main_v49_apply, val_main_v43_apply, v35_at, val_main_v42_apply, val_main_v41_apply, val_main_v40_apply, v21_at]
  have e : idx_main_v40 (idx_main_v41 (ix3 b i k)) = ix2 b i := funext fun a => match a with | ⟨0, _⟩ => rfl | ⟨1, _⟩ => rfl
  rw [e, v13_at]
  exact ne_bit (hL _) (hL _)

end Masks

/-- The reference's bounded norm of a row. -/
theorem v1_at (r : Fin 32768) : val_main_v1 (F := Ideal) x0 (ix2 r (0 : Fin 1)) = bound (rowsX x0 r) := by
  rw [val_main_v1_apply, val_main_call1_v1_apply, val_main_v0_apply, val_main_call0_v2_apply, val_main_call0_v1_apply]
  show max (Ideal.ofBits .f32 0x2B8CBCCC#32) (Ideal.sqrt (Ideal.ofBits .f32 0x00000000#32 + _)) = _
  rw [Ideal.ofBits_zero_f32, zero_add, max_comm]
  unfold bound
  refine congrArg (fun s => max (Ideal.sqrt s) _) (Finset.sum_congr rfl fun k _ => ?_)
  have e : idx_main_call0_v1 (idx_main_call0_v2 (ix2 r (0 : Fin 1))) k = ix2 r k :=
    funext fun a => match a with | ⟨0, _⟩ => rfl | ⟨1, _⟩ => rfl
  rw [val_main_call0_v0_apply, e]
  rfl

/-- The reference's scaled features, segment by segment. -/
theorem v14_at (b : Fin 8) (i : Fin 4096) (d : Fin 64) :
    val_main_v14 (F := Ideal) x0 (ix3 b i d) = Ideal.div (rowsX x0 (rowOf b i) d) (bound (rowsX x0 (rowOf b i))) := by
  rw [val_main_v14_apply]
  have e : idx_main_v14 (ix3 b i d) = ix2 (rowOf b i) d := funext fun a => Fin.ext (by
    match a with
    | ⟨0, _⟩ => show ((b.val * 4096 + i.val) * 64 + d.val) / 64 = b.val * 4096 + i.val; omega
    | ⟨1, _⟩ => show ((b.val * 4096 + i.val) * 64 + d.val) % 64 = d.val; omega)
  rw [e, val_main_v3_apply, val_main_v2_apply]
  have e2 : idx_main_v2 (ix2 (rowOf b i) d) = ix2 (rowOf b i) (0 : Fin 1) :=
    funext fun a => match a with | ⟨0, _⟩ => rfl | ⟨1, _⟩ => rfl
  rw [e2, v1_at]
  rfl

/-- The neighbour's scaled features. -/
theorem v28_at (b : Fin 8) (i : Fin 4096) (k : Fin 16) (d : Fin 64) : val_main_v28 (F := Ideal) x0 x1 (ix4 b i k d)
    = Ideal.div (rowsX x0 (rowOf b (nbr x1 b i k)) d) (bound (rowsX x0 (rowOf b (nbr x1 b i k)))) :=
  (gather_rows (val_main_v14 (F := Ideal) x0) (val_main_v27 (F := Ideal) x1) b i k d _ (v27_apply x1 b i k)).trans (v14_at x0 b _ d)

/-- The reference's similarity of a query and a neighbour. -/
theorem v47_at (b : Fin 8) (i : Fin 4096) (k : Fin 16) :
    val_main_v47 (F := Ideal) x0 x1 (ix3 b i k) = alike (rowsX x0) b i (nbr x1 b i k) := by
  rw [val_main_v47_apply]
  obtain ⟨s, hs, ht⟩ := cos_eq (rowsX x0 (rowOf b i)) (rowsX x0 (rowOf b (nbr x1 b i k)))
  show Ideal.ofBits .f32 0x00000000#32 + _ = _
  rw [Ideal.ofBits_zero_f32, zero_add]
  refine Eq.trans (Finset.sum_congr rfl fun d _ => ?_) (ht.trans hs.symm)
  have e : idx_main_v47 (ix3 b i k) d = ix4 b i k d :=
    funext fun a => match a with | ⟨0, _⟩ => rfl | ⟨1, _⟩ => rfl | ⟨2, _⟩ => rfl | ⟨3, _⟩ => rfl
  have e44 : idx_main_v44 (idx_main_v45 (ix4 b i k d)) = ix3 b i d :=
    funext fun a => match a with | ⟨0, _⟩ => rfl | ⟨1, _⟩ => rfl | ⟨2, _⟩ => rfl
  rw [e, val_main_v46_apply, val_main_v45_apply, val_main_v44_apply, e44, v14_at, v28_at]
  rfl

section Sums
variable (hL : ∀ r : Fin 32768, x3 (ix1 r) ≠ 4294967295#32)

/-- A sum over all queries and neighbours, from its terms. -/
theorem sum_pairs (y : FVec Ideal S8x4096x16 .f32) (f : Fin 8 → Fin 4096 → Fin 4096 → EReal)
    (h : ∀ b i k, y (ix3 b i k) = f b i (nbr x1 b i k)) :
    Ideal.ofBits .f32 0x00000000#32 + (∑ j : S8x4096x16.Idx, y j) = overNearest (rowsC x1) f := by
  rw [Ideal.ofBits_zero_f32, zero_add]
  refine (sum_idx3 _).trans ?_
  unfold overNearest
  exact Finset.sum_congr rfl fun b _ => Finset.sum_congr rfl fun i _ => Finset.sum_congr rfl fun k _ => h b i k

include hL

/-- The reference's positive sum. -/
theorem v53_at (i : S_.Idx) : val_main_v53 (F := Ideal) x0 x1 x3 i = pull (rowsX x0) (rowsC x1) (rowsL x3) := by
  rw [val_main_v53_apply]
  refine sum_pairs x1 _ _ fun b i k => ?_
  rw [val_main_v52_apply, val_main_v51_apply, val_main_v50_apply, v47_at, v48_at x1 x3 hL]
  show (Ideal.ofBits .f32 0x3F800000#32 - _) * _ = _
  rw [Ideal.ofBits_one_f32, mul_ite, mul_one, mul_zero]

/-- The reference's positive count. -/
theorem v54_at (i : S_.Idx) : val_main_v54 (F := Ideal) x1 x3 i = pullCount (rowsC x1) (rowsL x3) := by
  rw [val_main_v54_apply]
  exact sum_pairs x1 _ _ fun b i k => v48_at x1 x3 hL b i k

/-- The reference's negative count. -/
theorem v57_at (i : S_.Idx) : val_main_v57 (F := Ideal) x1 x3 i = thrustCount (rowsC x1) (rowsL x3) := by
  rw [val_main_v57_apply]
  exact sum_pairs x1 _ _ fun b i k => v49_at x1 x3 hL b i k

/-- The reference's hinge sum. -/
theorem v63_at (i : S_.Idx) : val_main_v63 (F := Ideal) x0 x1 x3 i = thrust (rowsX x0) (rowsC x1) (rowsL x3) := by
  rw [val_main_v63_apply]
  refine sum_pairs x1 _ _ fun b i k => ?_
  rw [val_main_v62_apply, val_main_v61_apply, val_main_v60_apply, val_main_v59_apply, val_main_call3_v0_apply, v47_at, v49_at x1 x3 hL]
  show max (_ - Ideal.ofBits .f32 0x3F000000#32) (Ideal.ofBits .f32 0x00000000#32) * _ = _
  rw [Ideal.ofBits_zero_f32, mul_ite, mul_one, mul_zero]
  rfl

/-- The reference's result. -/
theorem v69_at : val_main_v69 (F := Ideal) x0 x1 x3 = fun _ => Cert.KernelIdeal.Acc.loss (pull (rowsX x0) (rowsC x1) (rowsL x3))
    (pullCount (rowsC x1) (rowsL x3)) (thrust (rowsX x0) (rowsC x1) (rowsL x3)) (thrustCount (rowsC x1) (rowsL x3)) := by
  funext i
  rw [val_main_v69_apply, val_main_v68_apply, val_main_v67_apply, val_main_v66_apply, val_main_v65_apply, val_main_v64_apply, val_main_v58_apply,
    val_main_v56_apply, val_main_v55_apply, v53_at x0 x1 x3 hL, v54_at x1 x3 hL, v57_at x1 x3 hL, v63_at x0 x1 x3 hL]
  generalize pull (rowsX x0) (rowsC x1) (rowsL x3) = ps
  generalize pullCount (rowsC x1) (rowsL x3) = pc
  generalize thrust (rowsX x0) (rowsC x1) (rowsL x3) = ns
  generalize thrustCount (rowsC x1) (rowsL x3) = nc
  show (Ideal.div ps (max (Ideal.ofBits .f32 0x3F800000#32) pc) + Ideal.ofBits .f32 0x3F000000#32 *
    Scalar.select (Ideal.cmp .ogt nc (Ideal.ofBits .f32 0x00000000#32)) (Ideal.div ns (max nc (Ideal.ofBits .f32 0x3F800000#32)))
      (Ideal.ofBits .f32 0x00000000#32)) * Ideal.ofBits .f32 0x3F800000#32 = _
  rw [Cert.KernelIdeal.Acc.select_gt, Ideal.ofBits_one_f32, Ideal.ofBits_zero_f32, max_comm, mul_one]
  rfl

end Sums

end Cert.ReferenceIdeal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent
public import proofs.«01_k».proof.Proof.Total
public import proofs.«01_k».proof.Proof.Clear
public import proofs.«01_k».proof.Proof.RefValue

@[expose] public section

noncomputable section

namespace Cert.Proof

open Idealize.ShloMosaic Idealize.SL.Sem Cert.Kernel

/-- The reference runs, keeps its arguments and leaves no semaphore raised. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => And.intro (fun c => (h c).2) (sem_eq_zero_of_no_sems (by decide) r.2))
    (Cert.ReferenceIdeal.Value.run (F := Ideal) m ρ)

/-- Under the precondition the kernel and the reference end with one loss. -/
theorem value : Cert.algebraic_KernelIdeal_ReferenceIdeal_pre_unambiguous (hKernelIdeal := Cert.KernelIdeal.Gen.facts)
    (hReferenceIdeal := Cert.ReferenceIdeal.Gen.facts) (hPre_unambiguous := Cert.Pre_unambiguous.facts) := by
  intro m ρ m' ρ' hpre hargs
  letI := Cert.Pre_unambiguous.facts
  have key (c : Dev Cert.KernelIdeal.nD) := Cert.Pre_unambiguous.clear _ _ _ _ (hpre c)
  refine ⟨_, Cert.KernelIdeal.Acc.run m ρ, (θ_run Cert.ReferenceIdeal.defs _ _).mono (fun r h c => ⟨?_, (h c).2⟩)
    (Cert.ReferenceIdeal.Value.run m' ρ')⟩
  refine (h c).1.trans ((Cert.ReferenceIdeal.Read.val_main_v69_eq m' c).trans ?_)
  rw [(hargs c).1, (hargs c).2.1, (hargs c).2.2.2]
  refine (Cert.ReferenceIdeal.Read.v69_at _ _ _ (key c).2).trans ?_
  rw [Cert.KernelIdeal.Entry.total_pull (key c).1, Cert.KernelIdeal.Entry.total_pullCount (key c).1,
    Cert.KernelIdeal.Entry.total_thrust (key c).1, Cert.KernelIdeal.Entry.total_thrustCount (key c).1]
  rfl

/-- All the claims: the frames, that the ideal program is the kernel's, and the value. -/
theorem claim : Cert.Claim := ⟨Cert.Kernel.Gen.facts, Cert.KernelIdeal.Gen.facts, Cert.ReferenceIdeal.Gen.facts, Cert.Pre_unambiguous.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ, trivial, value⟩

end Cert.Proof

end
